-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_coarse_weights_finite [hPre_coarse_weights_finite : Cert.Pre_coarse_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_coarse_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_coarse_weights_finite [hPre_coarse_weights_finite : Cert.Pre_coarse_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_coarse_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_coarse_weights_finite [hKernelIdeal : Cert.KernelIdeal.Facts] [hPre_coarse_weights_finite : Cert.Pre_coarse_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_coarse_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_coarse_weights_finite [hReferenceIdeal : Cert.ReferenceIdeal.Facts] [hPre_coarse_weights_finite : Cert.Pre_coarse_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_coarse_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_coarse_weights_finite [hKernelIdeal : Cert.KernelIdeal.Facts] [hReferenceIdeal : Cert.ReferenceIdeal.Facts] [hPre_coarse_weights_finite : Cert.Pre_coarse_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_coarse_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_coarse_weights_finite : Cert.Pre_coarse_weights_finite.Facts),
    quiescent_Kernel (hKernel := hKernel)
    ∧ quiescent_KernelIdeal (hKernelIdeal := hKernelIdeal)
    ∧ quiescent_KernelIdeal_pre_coarse_weights_finite (hKernelIdeal := hKernelIdeal) (hPre_coarse_weights_finite := hPre_coarse_weights_finite)
    ∧ quiescent_ReferenceIdeal (hReferenceIdeal := hReferenceIdeal)
    ∧ quiescent_ReferenceIdeal_pre_coarse_weights_finite (hReferenceIdeal := hReferenceIdeal) (hPre_coarse_weights_finite := hPre_coarse_weights_finite)
    ∧ preserves_Kernel_KernelIdeal
    ∧ algebraic_KernelIdeal_ReferenceIdeal_pre_coarse_weights_finite (hKernelIdeal := hKernelIdeal) (hReferenceIdeal := hReferenceIdeal) (hPre_coarse_weights_finite := hPre_coarse_weights_finite)
-- ==== Pre_coarse_weights_finite.lean ====
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1024x256 : Shape := ⟨2, ![1024, 256]⟩
abbrev S256 : Shape := ⟨1, ![256]⟩
abbrev S256x1024 : Shape := ⟨2, ![256, 1024]⟩
abbrev S2048x1024 : Shape := ⟨2, ![2048, 1024]⟩
abbrev S1024x128 : Shape := ⟨2, ![1024, 128]⟩
abbrev S128 : Shape := ⟨1, ![128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg7 : FVec F S1024x1024 .f32) (main_arg8 : FVec F S1024 .f32) (main_arg9 : FVec F S1024x256 .f32) (main_arg10 : FVec F S256 .f32) (main_v3 : IVec S_ 1) (main_v7 : IVec S_ 1) (main_v11 : IVec S_ 1) (main_v15 : IVec S_ 1) : IVec S_ 1 :=
  let main_v16 : FVec F S1024x1024 .f32 := Host.absf main_arg7
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S1024 .f32 := Host.absf main_arg8
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024x256 .f32 := Host.absf main_arg9
  let main_cst_10 : FVec F S_ .f32 := constant S_ .f32 0x7F800000#32
  let main_v25 : FVec F S1024x256 .f32 := broadcastInDim S1024x256 ![] bcast_S_S1024x256 main_cst_10
  let main_v26 : IVec S1024x256 1 := cmpf .olt main_v24 main_v25
  let main_c_11 : IVec S_ 1 := constantI S_ 1 1#1
  let main_v27 : IVec S_ 1 := (fun x v => Host.reduce IntOp.andi x v reducesTo_S1024x256_S_d0_1 h_S_) main_v26 main_c_11
  let main_v28 : FVec F S256 .f32 := Host.absf main_arg10
  let main_cst_12 : FVec F S_ .f32 := constant S_ .f32 0x7F800000#32
  let main_v29 : FVec F S256 .f32 := broadcastInDim S256 ![] bcast_S_S256 main_cst_12
  let main_v30 : IVec S256 1 := cmpf .olt main_v28 main_v29
  let main_c_13 : IVec S_ 1 := constantI S_ 1 1#1
  let main_v31 : IVec S_ 1 := (fun x v => Host.reduce IntOp.andi x v reducesTo_S256_S_d0 h_S_) main_v30 main_c_13
  fn_part2 (F := F) main_v3 main_v7 main_v11 main_v15 main_v19 main_v23 main_v27 main_v31

def fn {F : FTy → Type} [FloatOps F] (main_arg0 : FVec F S1024x1024 .f32) (main_arg1 : FVec F S1024 .f32) (main_arg2 : FVec F S1024 .f32) (main_arg3 : FVec F S1024x1 .f32) (main_arg4 : FVec F S1 .f32) (main_arg5 : FVec F S1024x1024 .f32) (main_arg6 : FVec F S1024 .f32) (main_arg7 : FVec F S1024x1024 .f32) (main_arg8 : FVec F S1024 .f32) (main_arg9 : FVec F S1024x256 .f32) (main_arg10 : FVec F S256 .f32) (main_arg11 : FVec F S256x1024 .f32) (main_arg12 : FVec F S1024 .f32) (main_arg13 : FVec F S1024 .f32) (main_arg14 : FVec F S2048x1024 .f32) (main_arg15 : FVec F S1024 .f32) (main_arg16 : FVec F S1024x1024 .f32) (main_arg17 : FVec F S1024 .f32) (main_arg18 : FVec F S1024x128 .f32) (main_arg19 : FVec F S128 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x1024 .f32 := Host.absf main_arg5
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S1024 .f32 := Host.absf main_arg6
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg7 main_arg8 main_arg9 main_arg10 main_v3 main_v7 main_v11 main_v15
-- ==== Kernel.lean ====
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1024x256 : Shape := ⟨2, ![1024, 256]⟩
abbrev S256 : Shape := ⟨1, ![256]⟩
abbrev S256x1024 : Shape := ⟨2, ![256, 1024]⟩
abbrev S2048x1024 : Shape := ⟨2, ![2048, 1024]⟩
abbrev S1024x128 : Shape := ⟨2, ![1024, 128]⟩
abbrev S128 : Shape := ⟨1, ![128]⟩
abbrev S1024x32769 : Shape := ⟨2, ![1024, 32769]⟩
abbrev S64x32769 : Shape := ⟨2, ![64, 32769]⟩
abbrev S256x1 : Shape := ⟨2, ![256, 1]⟩
abbrev S256x256 : Shape := ⟨2, ![256, 256]⟩
abbrev S256x4 : Shape := ⟨2, ![256, 4]⟩
abbrev S256x512 : Shape := ⟨2, ![256, 512]⟩
abbrev S1x1024 : Shape := ⟨2, ![1, 1024]⟩
abbrev S1x1 : Shape := ⟨2, ![1, 1]⟩
abbrev S1x256 : Shape := ⟨2, ![1, 256]⟩
abbrev S256x128 : Shape := ⟨2, ![256, 128]⟩
abbrev S1x128 : Shape := ⟨2, ![1, 128]⟩
abbrev S64x256 : Shape := ⟨2, ![64, 256]⟩
abbrev S64x512 : Shape := ⟨2, ![64, 512]⟩
abbrev S64x1 : Shape := ⟨2, ![64, 1]⟩
abbrev S128x2048 : Shape := ⟨2, ![128, 2048]⟩
abbrev S16x2048 : Shape := ⟨2, ![16, 2048]⟩
abbrev S64x128 : Shape := ⟨2, ![64, 128]⟩
abbrev S64x2048 : Shape := ⟨2, ![64, 2048]⟩
abbrev S64x4 : Shape := ⟨2, ![64, 4]⟩
abbrev S64x16 : Shape := ⟨2, ![64, 16]⟩
abbrev S256x16 : Shape := ⟨2, ![256, 16]⟩
abbrev S256x2048 : Shape := ⟨2, ![256, 2048]⟩

abbrev nBuf : Space → Nat
  | .hbm => 21
  | .vmem => 32
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024, .f32⟩
  | .hbm, ⟨3, _⟩ => ⟨S1024x1, .f32⟩
  | .hbm, ⟨4, _⟩ => ⟨S1, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S256x1024, .f32⟩
  | .hbm, ⟨12, _⟩ => ⟨S1024, .f32⟩
  | .hbm, ⟨13, _⟩ => ⟨S1024, .f32⟩
  | .hbm, ⟨14, _⟩ => ⟨S2048x1024, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S1024x128, .f32⟩
  | .hbm, ⟨19, _⟩ => ⟨S128, .f32⟩
  | .hbm, ⟨20, _⟩ => ⟨S1024x32769, .f32⟩
  | .local _ .vmem, ⟨0, _⟩ => ⟨S256x1024, .f32⟩
  | .local _ .vmem, ⟨1, _⟩ => ⟨S256x1024, .f32⟩
  | .local _ .vmem, ⟨2, _⟩ => ⟨S1024, .f32⟩
  | .local _ .vmem, ⟨3, _⟩ => ⟨S1024, .f32⟩
  | .local _ .vmem, ⟨4, _⟩ => ⟨S1024x1, .f32⟩
  | .local _ .vmem, ⟨5, _⟩ => ⟨S1, .f32⟩
  | .local _ .vmem, ⟨6, _⟩ => ⟨S1024x1024, .f32⟩
  | .local _ .vmem, ⟨7, _⟩ => ⟨S1024, .f32⟩
  | .local _ .vmem, ⟨8, _⟩ => ⟨S1024x1024, .f32⟩
  | .local _ .vmem, ⟨9, _⟩ => ⟨S1024, .f32⟩
  | .local _ .vmem, ⟨10, _⟩ => ⟨S1024x256, .f32⟩
  | .local _ .vmem, ⟨11, _⟩ => ⟨S256, .f32⟩
  | .local _ .vmem, ⟨12, _⟩ => ⟨S256x1024, .f32⟩
  | .local _ .vmem, ⟨13, _⟩ => ⟨S1024, .f32⟩
  | .local _ .vmem, ⟨14, _⟩ => ⟨S1024, .f32⟩
  | .local _ .vmem, ⟨15, _⟩ => ⟨S2048x1024, .f32⟩
  | .local _ .vmem, ⟨16, _⟩ => ⟨S1024, .f32⟩
  | .local _ .vmem, ⟨17, _⟩ => ⟨S1024x1024, .f32⟩
  | .local _ .vmem, ⟨18, _⟩ => ⟨S1024, .f32⟩
  | .local _ .vmem, ⟨19, _⟩ => ⟨S1024x128, .f32⟩
  | .local _ .vmem, ⟨20, _⟩ => ⟨S128, .f32⟩
  | .local _ .vmem, ⟨21, _⟩ => ⟨S64x32769, .f32⟩
  | .local _ .vmem, ⟨22, _⟩ => ⟨S64x32769, .f32⟩
  | .local _ .vmem, ⟨23, _⟩ => ⟨S1024x1024, .bf16⟩
  | .local _ .vmem, ⟨24, _⟩ => ⟨S1024x1024, .bf16⟩
  | .local _ .vmem, ⟨25, _⟩ => ⟨S256x1024, .bf16⟩
  | .local _ .vmem, ⟨26, _⟩ => ⟨S1024x1024, .bf16⟩
  | .local _ .vmem, ⟨27, _⟩ => ⟨S1024x128, .bf16⟩
  | .local _ .vmem, ⟨28, _⟩ => ⟨S256x1, .f32⟩
  | .local _ .vmem, ⟨29, _⟩ => ⟨S256x256, .f32⟩
  | .local _ .vmem, ⟨30, _⟩ => ⟨S256x4, .i32⟩
  | .local _ .vmem, ⟨31, _⟩ => ⟨S256x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg20_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem20_1 : DmaSem sig := 22

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg1 : BitVec 32 := BitVec.ofNat 32 (i 1).val
  let c64_i32 : BitVec 32 := 64#32
  let v8 : BitVec 32 := Scalar.muli arg1 c64_i32
  let v9 : Index := Scalar.indexCast v8
  let c0 : Index := 0#32
  ![v9.toNat, 0]
def k0_off2 (i : grid0.Coords) : Fin 2 → Nat :=
  let arg1 : BitVec 32 := BitVec.ofNat 32 (i 1).val
  let c64_i32 : BitVec 32 := 64#32
  let v8 : BitVec 32 := Scalar.muli arg1 c64_i32
  let v11 : Index := Scalar.indexCast v8
  let c0_4 : Index := 0#32
  ![v11.toNat, 0]
def k0_off3 (i : grid0.Coords) : Fin 2 → Nat :=
  let arg1 : BitVec 32 := BitVec.ofNat 32 (i 1).val
  let c64_i32 : BitVec 32 := 64#32
  let v8 : BitVec 32 := Scalar.muli arg1 c64_i32
  let v13 : Index := Scalar.indexCast v8
  let c0_5 : Index := 0#32
  ![v13.toNat, 0]
def k0_off4 (i : grid0.Coords) : Fin 2 → Nat :=
  let arg1 : BitVec 32 := BitVec.ofNat 32 (i 1).val
  let c64_i32 : BitVec 32 := 64#32
  let v8 : BitVec 32 := Scalar.muli arg1 c64_i32
  let v166 : Index := Scalar.indexCast v8
  let c0_46 : Index := 0#32
  ![v166.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S64x32769 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== ReferenceIdeal.lean ====
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1024x256 : Shape := ⟨2, ![1024, 256]⟩
abbrev S256 : Shape := ⟨1, ![256]⟩
abbrev S256x1024 : Shape := ⟨2, ![256, 1024]⟩
abbrev S2048x1024 : Shape := ⟨2, ![2048, 1024]⟩
abbrev S1024x128 : Shape := ⟨2, ![1024, 128]⟩
abbrev S128 : Shape := ⟨1, ![128]⟩
abbrev S_ : Shape := ⟨0, ![]⟩
abbrev S1x1024 : Shape := ⟨2, ![1, 1024]⟩
abbrev S1x1 : Shape := ⟨2, ![1, 1]⟩
abbrev S1x256 : Shape := ⟨2, ![1, 256]⟩
abbrev S1024x4 : Shape := ⟨2, ![1024, 4]⟩
abbrev S1024x4x1 : Shape := ⟨3, ![1024, 4, 1]⟩
abbrev S1024x4x1024 : Shape := ⟨3, ![1024, 4, 1024]⟩
abbrev S1x1x1024 : Shape := ⟨3, ![1, 1, 1024]⟩
abbrev S1024x1x1024 : Shape := ⟨3, ![1024, 1, 1024]⟩
abbrev S1024x4x2048 : Shape := ⟨3, ![1024, 4, 2048]⟩
abbrev S1024x4x128 : Shape := ⟨3, ![1024, 4, 128]⟩
abbrev S1x1x128 : Shape := ⟨3, ![1, 1, 128]⟩
abbrev S1024x256x1 : Shape := ⟨3, ![1024, 256, 1]⟩
abbrev S1024x256x128 : Shape := ⟨3, ![1024, 256, 128]⟩
abbrev S4096 : Shape := ⟨1, ![4096]⟩
abbrev S4096x1 : Shape := ⟨2, ![4096, 1]⟩
abbrev S4096x128 : Shape := ⟨2, ![4096, 128]⟩
abbrev S4096x2 : Shape := ⟨2, ![4096, 2]⟩
abbrev S1024x16x16x8x8x2 : Shape := ⟨6, ![1024, 16, 16, 8, 8, 2]⟩
abbrev S1024x16x8x16x8x2 : Shape := ⟨6, ![1024, 16, 8, 16, 8, 2]⟩
abbrev S1024x32768 : Shape := ⟨2, ![1024, 32768]⟩
abbrev S1024x32769 : Shape := ⟨2, ![1024, 32769]⟩

abbrev nBuf : Space → Nat
  | .hbm => 205
  | .vmem => 0
  | .smem => 0
  | _ => 0

abbrev hbmTy0_0 (i : Nat) : BufTy := match i % 128 with
  | 0 => ⟨S1024x1024, .f32⟩
  | 1 => ⟨S1024, .f32⟩
  | 2 => ⟨S1024, .f32⟩
  | 3 => ⟨S1024x1, .f32⟩
  | 4 => ⟨S1, .f32⟩
  | 5 => ⟨S1024x1024, .f32⟩
  | 6 => ⟨S1024, .f32⟩
  | 7 => ⟨S1024x1024, .f32⟩
  | 8 => ⟨S1024, .f32⟩
  | 9 => ⟨S1024x256, .f32⟩
  | 10 => ⟨S256, .f32⟩
  | 11 => ⟨S256x1024, .f32⟩
  | 12 => ⟨S1024, .f32⟩
  | 13 => ⟨S1024, .f32⟩
  | 14 => ⟨S2048x1024, .f32⟩
  | 15 => ⟨S1024, .f32⟩
  | 16 => ⟨S1024x1024, .f32⟩
  | 17 => ⟨S1024, .f32⟩
  | 18 => ⟨S1024x128, .f32⟩
  | 19 => ⟨S128, .f32⟩
  | 20 => ⟨S_, .f32⟩
  | 21 => ⟨S1024, .f32⟩
  | 22 => ⟨S1024x1, .f32⟩
  | 23 => ⟨S_, .f32⟩
  | 24 => ⟨S1024x1, .f32⟩
  | 25 => ⟨S1024x1, .f32⟩
  | 26 => ⟨S1024x1024, .f32⟩
  | 27 => ⟨S1024x1024, .f32⟩
  | 28 => ⟨S1024x1024, .f32⟩
  | 29 => ⟨S_, .f32⟩
  | 30 => ⟨S1024, .f32⟩
  | 31 => ⟨S1024x1, .f32⟩
  | 32 => ⟨S_, .f32⟩
  | 33 => ⟨S1024x1, .f32⟩
  | 34 => ⟨S1024x1, .f32⟩
  | 35 => ⟨S1024x1024, .f32⟩
  | 36 => ⟨S1024x1024, .f32⟩
  | 37 => ⟨S_, .f32⟩
  | 38 => ⟨S1024x1, .f32⟩
  | 39 => ⟨S1024x1, .f32⟩
  | 40 => ⟨S1024x1, .f32⟩
  | 41 => ⟨S1024x1024, .f32⟩
  | 42 => ⟨S1024x1024, .f32⟩
  | 43 => ⟨S1x1024, .f32⟩
  | 44 => ⟨S1024x1024, .f32⟩
  | 45 => ⟨S1024x1024, .f32⟩
  | 46 => ⟨S1x1024, .f32⟩
  | 47 => ⟨S1024x1024, .f32⟩
  | 48 => ⟨S1024x1024, .f32⟩
  | 49 => ⟨S1024x1, .f32⟩
  | 50 => ⟨S1x1, .f32⟩
  | 51 => ⟨S1024x1, .f32⟩
  | 52 => ⟨S1024x1, .f32⟩
  | 53 => ⟨S1024x1024, .f32⟩
  | 54 => ⟨S1x1024, .f32⟩
  | 55 => ⟨S1024x1024, .f32⟩
  | 56 => ⟨S1024x1024, .f32⟩
  | 57 => ⟨S_, .f32⟩
  | 58 => ⟨S1024x1024, .f32⟩
  | 59 => ⟨S1024x1024, .f32⟩
  | 60 => ⟨S1024x1024, .f32⟩
  | 61 => ⟨S_, .f32⟩
  | 62 => ⟨S1024x1024, .f32⟩
  | 63 => ⟨S1024x1024, .f32⟩
  | 64 => ⟨S1024x1024, .f32⟩
  | 65 => ⟨S1024x1024, .f32⟩
  | 66 => ⟨S1024x1024, .f32⟩
  | 67 => ⟨S1x1024, .f32⟩
  | 68 => ⟨S1024x1024, .f32⟩
  | 69 => ⟨S1024x1024, .f32⟩
  | 70 => ⟨S_, .f32⟩
  | 71 => ⟨S1024x1024, .f32⟩
  | 72 => ⟨S1024x1024, .f32⟩
  | 73 => ⟨S1024x1024, .f32⟩
  | 74 => ⟨S_, .f32⟩
  | 75 => ⟨S1024x1024, .f32⟩
  | 76 => ⟨S1024x1024, .f32⟩
  | 77 => ⟨S1024x1024, .f32⟩
  | 78 => ⟨S1024x1024, .f32⟩
  | 79 => ⟨S1024x256, .f32⟩
  | 80 => ⟨S1x256, .f32⟩
  | 81 => ⟨S1024x256, .f32⟩
  | 82 => ⟨S1024x256, .f32⟩
  | 83 => ⟨S1024x4, .f32⟩
  | 84 => ⟨S1024x4, .i32⟩
  | 85 => ⟨S_, .i32⟩
  | 86 => ⟨S1024x4, .i32⟩
  | 87 => ⟨S1024x4, .i1⟩
  | 88 => ⟨S_, .i32⟩
  | 89 => ⟨S1024x4, .i32⟩
  | 90 => ⟨S1024x4, .i32⟩
  | 91 => ⟨S1024x4, .i32⟩
  | 92 => ⟨S1024x4x1, .i32⟩
  | 93 => ⟨S1024x4x1024, .f32⟩
  | 94 => ⟨S_, .f32⟩
  | 95 => ⟨S1024x4, .f32⟩
  | 96 => ⟨S1024x4x1, .f32⟩
  | 97 => ⟨S_, .f32⟩
  | 98 => ⟨S1024x4x1, .f32⟩
  | 99 => ⟨S1024x4x1, .f32⟩
  | 100 => ⟨S1024x4x1024, .f32⟩
  | 101 => ⟨S1024x4x1024, .f32⟩
  | 102 => ⟨S1024x4x1024, .f32⟩
  | 103 => ⟨S_, .f32⟩
  | 104 => ⟨S1024x4, .f32⟩
  | 105 => ⟨S1024x4x1, .f32⟩
  | 106 => ⟨S_, .f32⟩
  | 107 => ⟨S1024x4x1, .f32⟩
  | 108 => ⟨S1024x4x1, .f32⟩
  | 109 => ⟨S1024x4x1024, .f32⟩
  | 110 => ⟨S1024x4x1024, .f32⟩
  | 111 => ⟨S_, .f32⟩
  | 112 => ⟨S1024x4x1, .f32⟩
  | 113 => ⟨S1024x4x1, .f32⟩
  | 114 => ⟨S1024x4x1, .f32⟩
  | 115 => ⟨S1024x4x1024, .f32⟩
  | 116 => ⟨S1024x4x1024, .f32⟩
  | 117 => ⟨S1x1x1024, .f32⟩
  | 118 => ⟨S1024x4x1024, .f32⟩
  | 119 => ⟨S1024x4x1024, .f32⟩
  | 120 => ⟨S1x1x1024, .f32⟩
  | 121 => ⟨S1024x4x1024, .f32⟩
  | 122 => ⟨S1024x4x1024, .f32⟩
  | 123 => ⟨S1024x1x1024, .f32⟩
  | 124 => ⟨S1024x4x1024, .f32⟩
  | 125 => ⟨S1024x4x2048, .f32⟩
  | 126 => ⟨S1024x4x1024, .f32⟩
  | 127 => ⟨S1x1x1024, .f32⟩
  | _ => ⟨S1024x1024, .f32⟩

abbrev hbmTy0_1 (i : Nat) : BufTy := match i % 128 with
  | 0 => ⟨S1024x4x1024, .f32⟩
  | 1 => ⟨S1024x4x1024, .f32⟩
  | 2 => ⟨S_, .f32⟩
  | 3 => ⟨S1024x4x1024, .f32⟩
  | 4 => ⟨S1024x4x1024, .f32⟩
  | 5 => ⟨S1024x4x1024, .f32⟩
  | 6 => ⟨S_, .f32⟩
  | 7 => ⟨S1024x4x1024, .f32⟩
  | 8 => ⟨S1024x4x1024, .f32⟩
  | 9 => ⟨S1024x4x1024, .f32⟩
  | 10 => ⟨S1024x4x1024, .f32⟩
  | 11 => ⟨S1024x4x1024, .f32⟩
  | 12 => ⟨S1x1x1024, .f32⟩
  | 13 => ⟨S1024x4x1024, .f32⟩
  | 14 => ⟨S1024x4x1024, .f32⟩
  | 15 => ⟨S_, .f32⟩
  | 16 => ⟨S1024x4x1024, .f32⟩
  | 17 => ⟨S1024x4x1024, .f32⟩
  | 18 => ⟨S1024x4x1024, .f32⟩
  | 19 => ⟨S_, .f32⟩
  | 20 => ⟨S1024x4x1024, .f32⟩
  | 21 => ⟨S1024x4x1024, .f32⟩
  | 22 => ⟨S1024x4x1024, .f32⟩
  | 23 => ⟨S1024x4x1024, .f32⟩
  | 24 => ⟨S1024x4x128, .f32⟩
  | 25 => ⟨S1x1x128, .f32⟩
  | 26 => ⟨S1024x4x128, .f32⟩
  | 27 => ⟨S1024x4x128, .f32⟩
  | 28 => ⟨S1024x256x1, .f32⟩
  | 29 => ⟨S1024x256x128, .f32⟩
  | 30 => ⟨S_, .f32⟩
  | 31 => ⟨S1024x256x128, .f32⟩
  | 32 => ⟨S1024x256x128, .f32⟩
  | 33 => ⟨S1024, .i32⟩
  | 34 => ⟨S1024x4, .i32⟩
  | 35 => ⟨S4096, .i32⟩
  | 36 => ⟨S4096, .i32⟩
  | 37 => ⟨S_, .f32⟩
  | 38 => ⟨S1024x4, .f32⟩
  | 39 => ⟨S1024x4x1, .f32⟩
  | 40 => ⟨S1024x4x128, .f32⟩
  | 41 => ⟨S1024x4x128, .f32⟩
  | 42 => ⟨S1024x4x128, .f32⟩
  | 43 => ⟨S_, .f32⟩
  | 44 => ⟨S1024x4, .f32⟩
  | 45 => ⟨S1024x4x1, .f32⟩
  | 46 => ⟨S1024x4x1, .f32⟩
  | 47 => ⟨S1024x4x1, .f32⟩
  | 48 => ⟨S4096x1, .f32⟩
  | 49 => ⟨S4096x128, .f32⟩
  | 50 => ⟨S_, .f32⟩
  | 51 => ⟨S4096x128, .f32⟩
  | 52 => ⟨S4096x128, .f32⟩
  | 53 => ⟨S4096x128, .f32⟩
  | 54 => ⟨S4096x128, .f32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S4096x1, .i32⟩
  | 71 => ⟨S4096x2, .i32⟩
  | 72 => ⟨S1024x256x128, .f32⟩
  | 73 => ⟨S1024x16x16x8x8x2, .f32⟩
  | 74 => ⟨S1024x16x8x16x8x2, .f32⟩
  | 75 => ⟨S1024x32768, .f32⟩
  | 76 => ⟨S1024x32769, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_values : Ref sig .tc := ⟨.hbm, 83, rfl⟩
abbrev main_indices : Ref sig .tc := ⟨.hbm, 84, rfl⟩
abbrev main_c : Ref sig .tc := ⟨.hbm, 85, rfl⟩
abbrev main_v54 : Ref sig .tc := ⟨.hbm, 86, rfl⟩
abbrev main_v55 : Ref sig .tc := ⟨.hbm, 87, rfl⟩
abbrev main_c_8 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_9 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_11 : Ref sig .tc := ⟨.hbm, 103, rfl⟩
abbrev main_v68 : Ref sig .tc := ⟨.hbm, 104, rfl⟩
abbrev main_v69 : Ref sig .tc := ⟨.hbm, 105, rfl⟩
abbrev main_cst_12 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_14 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_15 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_16 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_17 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_18 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_19 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_20 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_21 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_c_22 : Ref sig .tc := ⟨.hbm, 183, rfl⟩
abbrev main_v137 : Ref sig .tc := ⟨.hbm, 184, rfl⟩
abbrev main_v138 : Ref sig .tc := ⟨.hbm, 185, rfl⟩
abbrev main_c_23 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_c_24 : Ref sig .tc := ⟨.hbm, 190, rfl⟩
abbrev main_v142 : Ref sig .tc := ⟨.hbm, 191, rfl⟩
abbrev main_v143 : Ref sig .tc := ⟨.hbm, 192, rfl⟩
abbrev main_c_25 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩

abbrev nD : Nat := 1
abbrev τ : Topo := Topo.v7x

variable {F : FTy → Type} [FloatOps F]
-- ==== Proof.Rows.lean ====
/- The mathematics of one row of the problem, over the extended reals: the layer norm, the dense layers and their gelu,
   the four picked branches, the update of one branch, and one entry of the output row. Both the kernel and the
   reference are read to these. -/
module

public import Idealize.ShloMosaic.Lib.Pointwise
public import Idealize.ShloMosaic.Lib.ValueIdx
public import Idealize.ShloMosaic.PureOps.Ideal.Laws

@[expose] public section

noncomputable section

namespace Cert.Rows

open Idealize.ShloMosaic

/-- The layer norm of a row, scaled. -/
def scaled (v g : Fin 1024 → EReal) (j : Fin 1024) : EReal :=
  (v j - Ideal.div (∑ k, v k) (Ideal.ofBits .f32 0x44800000#32))
    * Ideal.rsqrt (Ideal.div (∑ k, (v k - Ideal.div (∑ k, v k) (Ideal.ofBits .f32 0x44800000#32))
        * (v k - Ideal.div (∑ k, v k) (Ideal.ofBits .f32 0x44800000#32))) (Ideal.ofBits .f32 0x44800000#32)
      + Ideal.ofBits .f32 0x3727C5AC#32) * g j

/-- The layer norm of a row, scaled and shifted. -/
def norm (v g b : Fin 1024 → EReal) (j : Fin 1024) : EReal := scaled v g j + b j

/-- The gelu of one entry. -/
def gelu (h : EReal) : EReal :=
  Ideal.ofBits .f32 0x3F000000#32 * h * (1 + Ideal.erf (h * Ideal.ofBits .f32 0x3F3504F3#32))

/-- A dense layer on a row. -/
def dense {n p : ℕ} (W : Fin n → Fin p → EReal) (b : Fin p → EReal) (v : Fin n → EReal) (j : Fin p) : EReal :=
  (∑ k, v k * W k j) + b j

/-- The coarse scores of a normalised row: three dense layers, a gelu after the first two. -/
def scores (v : Fin 1024 → EReal) (W1 : Fin 1024 → Fin 1024 → EReal) (b1 : Fin 1024 → EReal) (W2 : Fin 1024 → Fin 1024 → EReal)
    (b2 : Fin 1024 → EReal) (W3 : Fin 1024 → Fin 256 → EReal) (b3 : Fin 256 → EReal) : Fin 256 → EReal :=
  dense W3 b3 fun k => gelu (dense W2 b2 (fun k => gelu (dense W1 b1 v k)) k)

/-- The fine scores of one branch: `t` is the first product's half over the normalised row, `e` the normalised embedding. -/
def fine (t e : Fin 1024 → EReal) (W1 : Fin 1024 → Fin 1024 → EReal) (b1 : Fin 1024 → EReal) (W2 : Fin 1024 → Fin 1024 → EReal)
    (b2 : Fin 1024 → EReal) (W3 : Fin 1024 → Fin 128 → EReal) (b3 : Fin 128 → EReal) : Fin 128 → EReal :=
  dense W3 b3 fun k => gelu (dense W2 b2 (fun k => gelu ((t k + ∑ l, e l * W1 l k) + b1 k)) k)

/-- The update of a branch: its scores plus `log 128` minus the logarithm of the sum of their exponentials. -/
def update (f : Fin 128 → EReal) (j : Fin 128) : EReal :=
  f j + Ideal.ofBits .f32 0x409B43D5#32
    - (Finset.univ.fold max (Ideal.ofBits .f32 0xFF800000#32) f
        + Ideal.log (∑ k, Ideal.exp (f k - Finset.univ.fold max (Ideal.ofBits .f32 0xFF800000#32) f)))

end Cert.Rows

end
-- ==== Proof.Picks.lean ====
/- The four picks of a row. The kernel repeats "the first place of the maximum, then strike it out"; the reference sorts
   the places by value, stably, and keeps the first four. On a row with no −∞ the two agree. -/
module

public import proofs.«01_k».proof.Proof.Rows
public import Idealize.ShloMosaic.Lib.SortPrefix

@[expose] public section

noncomputable section

namespace Cert.Rows

open Idealize.ShloMosaic

/-- The least word among the places of the maximum (`256` standing for a place that is not one). -/
def firstMax (v : Fin 256 → EReal) : BitVec 32 :=
  Finset.univ.fold IntOp.minsi 2147483647#32 fun n : Fin 256 =>
    if v n = Finset.univ.fold max (Ideal.ofBits .f32 0xFF800000#32) v then BitVec.ofNat 32 n.val else 256#32

/-- The row with one place struck out. -/
def strike (v : Fin 256 → EReal) (i : BitVec 32) (n : Fin 256) : EReal :=
  if BitVec.ofNat 32 n.val = i then Ideal.ofBits .f32 0xFF800000#32 else v n

/-- The row after `k` rounds. -/
def rest (v : Fin 256 → EReal) : ℕ → Fin 256 → EReal
  | 0 => v
  | k + 1 => strike (rest v k) (firstMax (rest v k))

/-- The pick of round `k`. -/
def pick (v : Fin 256 → EReal) (k : ℕ) : BitVec 32 := firstMax (rest v k)

/-- The word of −∞ is the bottom element. -/
theorem negInf : Ideal.ofBits .f32 0xFF800000#32 = (⊥ : EReal) := by
  simp [Ideal.ofBits, Ideal.ieee]

/-- The fold of `max` from −∞ is an upper bound. -/
theorem le_foldMax {ι : Type} [Fintype ι] (v : ι → EReal) (n : ι) : v n ≤ Finset.univ.fold max ⊥ v :=
  (Finset.le_fold_max _).2 (.inr ⟨n, Finset.mem_univ _, le_rfl⟩)

/-- The fold of `max` from −∞ is attained. -/
theorem foldMax_attained {ι : Type} [Fintype ι] [Nonempty ι] (v : ι → EReal) : ∃ n, v n = Finset.univ.fold max ⊥ v := by
  obtain ⟨n, -, hn⟩ := Finset.exists_max_image Finset.univ v ⟨Classical.arbitrary ι, Finset.mem_univ _⟩
  refine ⟨n, le_antisymm (le_foldMax v n) ?_⟩
  exact Finset.fold_max_le _ |>.2 ⟨bot_le, fun m _ => hn m (Finset.mem_univ _)⟩

/-- The signed minimum of words below `2 ^ 31`, as naturals. -/
theorem toNat_minsi {a b : BitVec 32} (ha : a.toNat < 2 ^ 31) (hb : b.toNat < 2 ^ 31) :
    (IntOp.minsi a b).toNat = min a.toNat b.toNat := by
  unfold IntOp.minsi
  split <;> rename_i h <;> simp only [BitVec.slt, BitVec.sle, decide_eq_true_eq, BitVec.toInt_eq_toNat_cond] at h <;> split_ifs at h <;> omega

/-- The fold of the signed minimum over small words is their least. -/
theorem toNat_foldMin (s : Finset (Fin 256)) (f : Fin 256 → BitVec 32) (hf : ∀ n, (f n).toNat ≤ 256) :
    (s.fold IntOp.minsi 2147483647#32 f).toNat = s.fold min 2147483647 fun n => (f n).toNat := by
  induction s using Finset.induction with
  | empty => rfl
  | insert a s ha ih =>
    rw [Finset.fold_insert ha, Finset.fold_insert ha, toNat_minsi (by have := hf a; omega), ih]
    rw [ih]
    have : s.fold min 2147483647 (fun n => (f n).toNat) ≤ 2147483647 := (Finset.fold_min_le _).2 (.inl le_rfl)
    omega

/-- The first place of the maximum. -/
theorem firstMax_spec (v : Fin 256 → EReal) : ∃ n : Fin 256, firstMax v = BitVec.ofNat 32 n.val ∧
    (∀ m, v m ≤ v n) ∧ ∀ m, m < n → v m < v n := by
  obtain ⟨n0, hn0⟩ := foldMax_attained v
  set M := Finset.univ.fold max ⊥ v with hM
  let P : Fin 256 → Prop := fun n => v n = M
  haveI : DecidablePred P := Classical.decPred _
  obtain ⟨n, hn, hmin⟩ := Finset.exists_min_image (Finset.univ.filter P) (fun n => n) ⟨n0, by simp [P, hn0]⟩
  have hn' : v n = M := by simpa [P] using hn
  have hmin' : ∀ m, v m = M → n ≤ m := fun m hm => hmin m (by simp [P, hm])
  refine ⟨n, ?_, fun m => hn' ▸ le_foldMax v m, fun m hm => lt_of_le_of_ne (hn' ▸ le_foldMax v m) fun h => ?_⟩
  · apply BitVec.eq_of_toNat_eq
    unfold firstMax
    rw [negInf, toNat_foldMin _ _ (by intro m; split_ifs <;> simp <;> omega), ← hM]
    have hr : (BitVec.ofNat 32 n.val).toNat = n.val := by simp; omega
    rw [hr]
    refine le_antisymm ((Finset.fold_min_le _).2 (.inr ⟨n, Finset.mem_univ _, ?_⟩)) ((Finset.le_fold_min _).2 ⟨by omega, fun m _ => ?_⟩)
    · rw [if_pos hn', hr]
    · split_ifs with h
      · have := hmin' m h
        have hr : (BitVec.ofNat 32 m.val).toNat = m.val := by simp; omega
        rw [hr]; exact this
      · show n.val ≤ (256#32).toNat
        have : (256#32).toNat = 256 := rfl
        omega
  · exact absurd (hmin' m (h.trans hn')) (not_le.2 hm)

/-- Words of places are distinct. -/
theorem ofNat_inj {m n : Fin 256} (h : BitVec.ofNat 32 m.val = BitVec.ofNat 32 n.val) : m = n := by
  have := congrArg BitVec.toNat h
  simp only [BitVec.toNat_ofNat] at this
  exact Fin.ext (by omega)

/-- The place picked in round `k`. -/
def place (v : Fin 256 → EReal) (k : ℕ) : Fin 256 := (firstMax_spec (rest v k)).choose

/-- A pick is the word of its place. -/
theorem pick_eq (v : Fin 256 → EReal) (k : ℕ) : pick v k = BitVec.ofNat 32 (place v k).val :=
  (firstMax_spec (rest v k)).choose_spec.1

/-- A place is a first maximum of what is left. -/
theorem place_max (v : Fin 256 → EReal) (k : ℕ) :
    (∀ m, rest v k m ≤ rest v k (place v k)) ∧ ∀ m, m < place v k → rest v k m < rest v k (place v k) :=
  (firstMax_spec (rest v k)).choose_spec.2

/-- What is left after `k` rounds: −∞ at the places picked, the row elsewhere. -/
theorem rest_eq (v : Fin 256 → EReal) (k : ℕ) (n : Fin 256) :
    ((∃ j < k, n = place v j) ∧ rest v k n = ⊥) ∨ ((∀ j < k, n ≠ place v j) ∧ rest v k n = v n) := by
  induction k with
  | zero => exact .inr ⟨fun j hj => absurd hj (Nat.not_lt_zero _), rfl⟩
  | succ k ih =>
    have hs : rest v (k + 1) n = if n = place v k then ⊥ else rest v k n := by
      show strike (rest v k) (pick v k) n = _
      unfold strike
      rw [pick_eq, negInf]
      exact if_congr ⟨ofNat_inj, fun h => by rw [h]⟩ rfl rfl
    rw [hs]
    by_cases h : n = place v k
    · exact .inl ⟨⟨k, Nat.lt_succ_self _, h⟩, if_pos h⟩
    · rw [if_neg h]
      refine ih.imp (fun ⟨⟨j, hj, e⟩, r⟩ => ⟨⟨j, by omega, e⟩, r⟩) fun ⟨hj, r⟩ => ⟨fun j hj' => ?_, r⟩
      rcases Nat.lt_succ_iff_lt_or_eq.1 hj' with h' | rfl
      · exact hj j h'
      · exact h

/-- On a row with no −∞ the place of an early round has not been picked before. -/
theorem place_new (v : Fin 256 → EReal) (hv : ∀ n, v n ≠ ⊥) (k : ℕ) (hk : k < 256) :
    (∀ j < k, place v k ≠ place v j) ∧ rest v k (place v k) = v (place v k) := by
  rcases rest_eq v k (place v k) with ⟨-, hb⟩ | h
  · exfalso
    have : ∃ n : Fin 256, ∀ j < k, n ≠ place v j := by
      by_contra hcon
      push Not at hcon
      have hc : (Finset.univ : Finset (Fin 256)) ⊆ (Finset.range k).image (place v) := fun n _ => by
        obtain ⟨j, hj, e⟩ := hcon n
        exact Finset.mem_image.2 ⟨j, Finset.mem_range.2 hj, e.symm⟩
      have h1 := (Finset.card_le_card hc).trans Finset.card_image_le
      simp at h1
      omega
    obtain ⟨n, hn⟩ := this
    have hle := (place_max v k).1 n
    rcases rest_eq v k n with ⟨⟨j, hj, e⟩, -⟩ | ⟨-, r⟩
    · exact hn j hj e
    · rw [hb, r] at hle
      exact hv n (le_bot_iff.1 hle)
  · exact h

/-- A value that sorts earlier: the greater, and of equal values the earlier place. -/
def before (v : Fin 256 → EReal) (a b : Fin 256) : Bool := decide (v b < v a) || (decide (v a = v b) && decide (a < b))

/-- The stable sort by "greater" is the sort by "greater, then the earlier place". -/
theorem stableSort_eq (v : Fin 256 → EReal) (l : List (Fin 256)) (hl : l.Pairwise (· < ·)) :
    stableSort (fun a b => decide (v b < v a)) l = stableSort (before v) l := by
  induction l with
  | nil => rfl
  | cons a l ih =>
    rw [List.pairwise_cons] at hl
    show insertBefore _ a (stableSort _ l) = insertBefore _ a (stableSort _ l)
    rw [ih hl.2]
    refine insertBefore_congr _ _ _ _ fun b hb => ?_
    have hab : a < b := hl.1 b ((perm_stableSort _ _).mem_iff.1 hb)
    have : ¬ b < a := not_lt.2 hab.le
    simp [before, this]

/-- The order is strict and total. -/
theorem before_total (v : Fin 256 → EReal) : StrictTotalBefore (before v) where
  irrefl a := by simp [before]
  trans a b c h1 h2 := by
    simp only [before, Bool.or_eq_true, Bool.and_eq_true, decide_eq_true_eq] at *
    rcases h1 with h1 | ⟨h1, h1'⟩ <;> rcases h2 with h2 | ⟨h2, h2'⟩
    · exact .inl (h2.trans h1)
    · exact .inl (h2 ▸ h1)
    · exact .inl (h1 ▸ h2)
    · exact .inr ⟨h1.trans h2, h1'.trans h2'⟩
  total a b h := by
    simp only [before, Bool.or_eq_true, Bool.and_eq_true, decide_eq_true_eq]
    rcases lt_trichotomy (v a) (v b) with h' | h' | h'
    · exact .inr (.inl h')
    · rcases lt_or_gt_of_ne h with h'' | h''
      · exact .inl (.inr ⟨h', h''⟩)
      · exact .inr (.inr ⟨h'.symm, h''⟩)
    · exact .inl (.inl h')

/-- Equal sorted lists have equal positions. -/
theorem sortedFrom_of_positions {n : ℕ} (B B' : Fin n → Fin n → Bool) (h : sortPositions n B = sortPositions n B') :
    sortedFrom B = sortedFrom B' := by
  funext j
  unfold sortedFrom
  simp only [List.get_eq_getElem]
  exact getElem_congr_coll h

/-- On a row with no −∞ the stable sort's first four positions are the four picks. -/
theorem sortedFrom_eq_place (v : Fin 256 → EReal) (hv : ∀ n, v n ≠ ⊥) (k : Fin 4) :
    sortedFrom (fun a b => decide (v b < v a)) (k.castLE (by decide)) = place v k.val := by
  have hs : sortedFrom (fun a b => decide (v b < v a)) = sortedFrom (before v) := by
    have hp : sortPositions 256 (fun a b => decide (v b < v a)) = sortPositions 256 (before v) :=
      stableSort_eq v _ (List.pairwise_lt_finRange 256)
    exact sortedFrom_of_positions _ _ hp
  rw [hs]
  have key : ∀ (a : ℕ) (n : Fin 256), a < 256 → (∀ j < a + 1, n ≠ place v j) → before v (place v a) n = true := by
    intro a n ha hn
    obtain ⟨hnew, hr⟩ := place_new v hv a ha
    have h1 := (place_max v a).1 n
    have hrn : rest v a n = v n := by
      rcases rest_eq v a n with ⟨⟨j, hj, e⟩, -⟩ | ⟨-, r⟩
      · exact absurd e (hn j (by omega))
      · exact r
    rw [hr, hrn] at h1
    simp only [before, Bool.or_eq_true, Bool.and_eq_true, decide_eq_true_eq]
    rcases h1.lt_or_eq with h | h
    · exact .inl h
    · refine .inr ⟨h.symm, ?_⟩
      rcases lt_trichotomy (place v a) n with h' | h' | h'
      · exact h'
      · exact absurd h'.symm (hn a (by omega))
      · have := (place_max v a).2 n h'
        rw [hr, hrn, h] at this
        exact absurd this (lt_irrefl _)
  have asymm := fun a b h => (before_total v).asymm (B := before v) a b h
  refine (before_total v).sortedFrom_eq_of_prefix (by decide) (fun i : Fin 4 => place v i.val) (fun i j h => ?_) (fun i j hij => ?_)
    (fun i p hp => ?_) k
  · rcases lt_trichotomy i j with h' | h' | h'
    · exact absurd h.symm ((place_new v hv j.val (by omega)).1 i.val h')
    · exact h'
    · exact absurd h ((place_new v hv i.val (by omega)).1 j.val h')
  · refine asymm _ _ (key i.val _ (by omega) fun a ha => ?_)
    exact (place_new v hv j.val (by omega)).1 a (by have : i.val < j.val := hij; omega)
  · refine asymm _ _ (key i.val p (by omega) fun a ha h => hp ⟨a, by omega⟩ h.symm)

end Cert.Rows

end
-- ==== Proof.Spec.lean ====
/- The problem on one row: the scores, the four picked places, the branches' updates, and one entry of the output row, from
   the weights as plain functions. Both programs are read to these. -/
module

public import proofs.«01_k».proof.Proof.Picks

@[expose] public section

noncomputable section

namespace Cert.Rows

open Idealize.ShloMosaic

/-- The weights of the problem. -/
structure Weights where
  g1 : Fin 1024 → EReal
  b1 : Fin 1024 → EReal
  nW : Fin 1024 → Fin 1 → EReal
  nb : Fin 1 → EReal
  cW1 : Fin 1024 → Fin 1024 → EReal
  cb1 : Fin 1024 → EReal
  cW2 : Fin 1024 → Fin 1024 → EReal
  cb2 : Fin 1024 → EReal
  cW3 : Fin 1024 → Fin 256 → EReal
  cb3 : Fin 256 → EReal
  emb : Fin 256 → Fin 1024 → EReal
  g2 : Fin 1024 → EReal
  b2 : Fin 1024 → EReal
  fW1 : Fin 2048 → Fin 1024 → EReal
  fb1 : Fin 1024 → EReal
  fW2 : Fin 1024 → Fin 1024 → EReal
  fb2 : Fin 1024 → EReal
  fW3 : Fin 1024 → Fin 128 → EReal
  fb3 : Fin 128 → EReal

/-- The first half of a row of 2048. -/
abbrev lower (k : Fin 1024) : Fin 2048 := ⟨k.val, by omega⟩

/-- The second half of a row of 2048. -/
abbrev upper (k : Fin 1024) : Fin 2048 := ⟨1024 + k.val, by omega⟩

namespace Weights

variable (w : Weights) (x : Fin 1024 → EReal)

/-- The normalised row. -/
def rows : Fin 1024 → EReal := norm x w.g1 w.b1

/-- The no-op column. -/
def noop : EReal := dense w.nW w.nb (w.rows x) 0

/-- The coarse scores. -/
def score : Fin 256 → EReal := scores (w.rows x) w.cW1 w.cb1 w.cW2 w.cb2 w.cW3 w.cb3

/-- The place round `k` picks. -/
def picked (k : Fin 4) : Fin 256 := place (w.score x) k.val

/-- The fine scores at a place. -/
def fineAt (n : Fin 256) : Fin 128 → EReal :=
  fine (fun j => ∑ k, w.rows x k * w.fW1 (lower k) j) (norm (w.emb n) w.g2 w.b2)
    (fun k j => w.fW1 (upper k) j) w.fb1 w.fW2 w.fb2 w.fW3 w.fb3

/-- The update of round `k`. -/
def branch (k : Fin 4) : Fin 128 → EReal := update (w.fineAt x (w.picked x k))

end Weights

/-- The entry of a row of the big array: score `n` less `log 128`, and the updates of the rounds that picked `n`, at column `f`. -/
def entry (s : Fin 256 → EReal) (q : Fin 4 → Fin 256) (u : Fin 4 → Fin 128 → EReal) (n : Fin 256) (f : Fin 128) : EReal :=
  s n - Ideal.ofBits .f32 0x409B43D5#32 + (if q 0 = n then u 0 f else 0) + (if q 1 = n then u 1 f else 0)
    + (if q 2 = n then u 2 f else 0) + (if q 3 = n then u 3 f else 0)

/-- The big array's entry of a row. -/
def Weights.big (w : Weights) (x : Fin 1024 → EReal) : Fin 256 → Fin 128 → EReal := entry (w.score x) (w.picked x) (w.branch x)

end Cert.Rows

end
-- ==== Proof.RefRead.lean ====
module

public import proofs.«01_k».proof.Proof.Gen.ReferenceIdeal.Read
public import proofs.«01_k».proof.Proof.Spec
public import Idealize.ShloMosaic.Lib.Routing.OpsPair
public import Idealize.ShloMosaic.Lib.Pipeline.Value
public import Idealize.ShloMosaic.Lib.ValueIdxRank6

@[expose] public section

set_option maxRecDepth 16384

noncomputable section

namespace Cert.ReferenceIdeal.Reads

open Cert.ReferenceIdeal Cert.ReferenceIdeal.Gen Cert.ReferenceIdeal.Read Idealize.ShloMosaic Idealize.ShloMosaic.TcCoe Cert.Rows

/-- Above zero, a quotient by a square root is a product with the inverse square root. -/
theorem div_sqrt {x y : EReal} (hy : 0 < y) : Ideal.div x (Ideal.sqrt y) = x * Ideal.rsqrt y := by
  induction y with
  | bot => exact absurd hy (by simp)
  | top => simp [Ideal.div]
  | coe r =>
    have hr : 0 < r := by exact_mod_cast hy
    have hs : Real.sqrt r ≠ 0 := (Real.sqrt_pos.2 hr).ne'
    rw [Ideal.sqrt_coe, Ideal.rsqrt_coe, if_neg (not_lt.2 hr.le), if_neg (not_lt.2 hr.le), if_neg hr.ne', Ideal.div,
      if_neg (by exact_mod_cast hs), EReal.coe_inv]

/-- The reference's gelu. -/
theorem gelu_erfc (h : EReal) :
    Ideal.ofBits .f32 0x3F000000#32 * h * Ideal.erfc (-h * Ideal.ofBits .f32 0x3F3504F3#32) = gelu h := by
  rw [EReal.neg_mul, Ideal.erfc_neg]
  rfl

/-- A square is not below zero. -/
theorem square_nonneg (a : EReal) : 0 ≤ a * a := by
  rcases le_total 0 a with h | h
  · exact mul_nonneg h h
  · rw [← neg_mul_neg]; exact mul_nonneg (by simpa using h) (by simpa using h)

/-- The row length is a positive real. -/
theorem length_eq : Ideal.ofBits .f32 0x44800000#32 = ((1024 : ℝ) : EReal) := by
  simp [Ideal.ofBits, Ideal.ieee, -EReal.coe_mul]; norm_num

/-- The small number added to a variance is above zero. -/
theorem small_pos : (0 : EReal) < Ideal.ofBits .f32 0x3727C5AC#32 := by
  have h : Ideal.ofBits .f32 0x3727C5AC#32 = ((10995116 / 2 ^ 40 : ℝ) : EReal) := by
    simp [Ideal.ofBits, Ideal.ieee, -EReal.coe_mul]; norm_num
  rw [h]
  exact_mod_cast (by norm_num : (0 : ℝ) < 10995116 / 2 ^ 40)

/-- A mean of squares, moved up a little, is above zero. -/
theorem moved_pos (u : Fin 1024 → EReal) :
    0 < Ideal.div (∑ k, u k * u k) (Ideal.ofBits .f32 0x44800000#32) + Ideal.ofBits .f32 0x3727C5AC#32 := by
  have h3 : (0 : EReal) ≤ ∑ k, u k * u k := Finset.sum_nonneg fun k _ => square_nonneg _
  refine lt_of_lt_of_le small_pos (le_add_of_nonneg_left ?_)
  rw [length_eq, Ideal.div, if_neg (by exact_mod_cast (by norm_num : (1024 : ℝ) ≠ 0)), ← EReal.coe_inv]
  exact mul_nonneg h3 (by exact_mod_cast (by norm_num : (0 : ℝ) ≤ 1024⁻¹))

/-- The position of update `k` of row `b` in the list of all updates. -/
abbrev slot (b : Fin 1024) (k : Fin 4) : Fin 4096 := ⟨4 * b.val + k.val, by omega⟩

variable (x0 : (⟨S1024x1024, .f32⟩ : BufTy).Contents (Elt Ideal))
  (x1 x2 : (⟨S1024, .f32⟩ : BufTy).Contents (Elt Ideal))
  (x3 : (⟨S1024x1, .f32⟩ : BufTy).Contents (Elt Ideal))
  (x4 : (⟨S1, .f32⟩ : BufTy).Contents (Elt Ideal))
  (x5 : (⟨S1024x1024, .f32⟩ : BufTy).Contents (Elt Ideal))
  (x6 : (⟨S1024, .f32⟩ : BufTy).Contents (Elt Ideal))
  (x7 : (⟨S1024x1024, .f32⟩ : BufTy).Contents (Elt Ideal))
  (x8 : (⟨S1024, .f32⟩ : BufTy).Contents (Elt Ideal))
  (x9 : (⟨S1024x256, .f32⟩ : BufTy).Contents (Elt Ideal))
  (x10 : (⟨S256, .f32⟩ : BufTy).Contents (Elt Ideal))
  (x11 : (⟨S256x1024, .f32⟩ : BufTy).Contents (Elt Ideal))
  (x12 x13 : (⟨S1024, .f32⟩ : BufTy).Contents (Elt Ideal))
  (x14 : (⟨S2048x1024, .f32⟩ : BufTy).Contents (Elt Ideal))
  (x15 : (⟨S1024, .f32⟩ : BufTy).Contents (Elt Ideal))
  (x16 : (⟨S1024x1024, .f32⟩ : BufTy).Contents (Elt Ideal))
  (x17 : (⟨S1024, .f32⟩ : BufTy).Contents (Elt Ideal))
  (x18 : (⟨S1024x128, .f32⟩ : BufTy).Contents (Elt Ideal))
  (x19 : (⟨S128, .f32⟩ : BufTy).Contents (Elt Ideal))

/-- The reference's layer norm of a row. -/
theorem norm_read (r j : Fin 1024) :
    val_main_v23 (F := Ideal) x0 x1 x2 (ix2 r j) = norm (fun k => x0 (ix2 r k)) (fun k => x1 (ix1 k)) (fun k => x2 (ix1 k)) j := by
  pointwise [val_main_v0, val_main_cst, val_main_v1, val_main_v2, val_main_cst_0, val_main_v3, val_main_v4, val_main_v5, val_main_v6, val_main_v7, val_main_cst_1, val_main_v8, val_main_v9, val_main_cst_2, val_main_v10, val_main_v11, val_main_v12, val_main_v13, val_main_cst_3, val_main_v14, val_main_v15, val_main_v16, val_main_v17, val_main_v18, val_main_v19, val_main_v20, val_main_v21, val_main_v22, val_main_v23]
  exact congrArg₂ (· + ·) (congrArg₂ (· * ·) (div_sqrt (moved_pos _)) rfl) rfl

/-- The reference's no-op column. -/
theorem noop_read (r : Fin 1024) :
    val_main_v27 (F := Ideal) x0 x1 x2 x3 x4 (ix2 r 0) = dense (fun k j => x3 (ix2 k j)) (fun j => x4 (ix1 j)) (fun k => val_main_v23 (F := Ideal) x0 x1 x2 (ix2 r k)) 0 := by
  pointwise [val_main_v24, val_main_v25, val_main_v26, val_main_v27]
  rfl

/-- The first coarse layer. -/
theorem first_read (r j : Fin 1024) :
    val_main_v38 (F := Ideal) x0 x1 x2 x5 x6 (ix2 r j) = gelu (dense (fun k j => x5 (ix2 k j)) (fun j => x6 (ix1 j)) (fun k => val_main_v23 (F := Ideal) x0 x1 x2 (ix2 r k)) j) := by
  pointwise [val_main_v28, val_main_v29, val_main_v30, val_main_v31, val_main_v32, val_main_cst_4, val_main_v33, val_main_v34, val_main_v35, val_main_cst_5, val_main_v36, val_main_v37, val_main_v38]
  exact gelu_erfc _

/-- The second coarse layer. -/
theorem second_read (r j : Fin 1024) :
    val_main_v49 (F := Ideal) x0 x1 x2 x5 x6 x7 x8 (ix2 r j) = gelu (dense (fun k j => x7 (ix2 k j)) (fun j => x8 (ix1 j)) (fun k => val_main_v38 (F := Ideal) x0 x1 x2 x5 x6 (ix2 r k)) j) := by
  pointwise [val_main_v39, val_main_v40, val_main_v41, val_main_v42, val_main_v43, val_main_cst_6, val_main_v44, val_main_v45, val_main_v46, val_main_cst_7, val_main_v47, val_main_v48, val_main_v49]
  exact gelu_erfc _

/-- The coarse scores. -/
theorem third_read (r : Fin 1024) (j : Fin 256) :
    val_main_v53 (F := Ideal) x0 x1 x2 x5 x6 x7 x8 x9 x10 (ix2 r j) = dense (fun k j => x9 (ix2 k j)) (fun j => x10 (ix1 j)) (fun k => val_main_v49 (F := Ideal) x0 x1 x2 x5 x6 x7 x8 (ix2 r k)) j := by
  pointwise [val_main_v50, val_main_v51, val_main_v52, val_main_v53]
  rfl

/-- The layer norm of a picked embedding row. -/
theorem embNorm_read (b : Fin 1024) (k : Fin 4) (j : Fin 1024) :
    val_main_v84 (F := Ideal) x0 x1 x2 x5 x6 x7 x8 x9 x10 x11 x12 x13 (ix3 b k j) = norm (fun l => val_main_v60 (F := Ideal) x0 x1 x2 x5 x6 x7 x8 x9 x10 x11 (ix3 b k l)) (fun l => x12 (ix1 l)) (fun l => x13 (ix1 l)) j := by
  pointwise [val_main_v61, val_main_cst_9, val_main_v62, val_main_v63, val_main_cst_10, val_main_v64, val_main_v65, val_main_v66, val_main_v67, val_main_v68, val_main_cst_11, val_main_v69, val_main_v70, val_main_cst_12, val_main_v71, val_main_v72, val_main_v73, val_main_v74, val_main_cst_13, val_main_v75, val_main_v76, val_main_v77, val_main_v78, val_main_v79, val_main_v80, val_main_v81, val_main_v82, val_main_v83, val_main_v84]
  exact congrArg₂ (· + ·) (congrArg₂ (· * ·) (div_sqrt (moved_pos _)) rfl) rfl

/-- The first fine layer before its gelu: a product over the joined row. -/
theorem joint_read (b : Fin 1024) (k : Fin 4) (j : Fin 1024) :
    val_main_v91 (F := Ideal) x0 x1 x2 x5 x6 x7 x8 x9 x10 x11 x12 x13 x14 x15 (ix3 b k j) = ((∑ l, val_main_v23 (F := Ideal) x0 x1 x2 (ix2 b l) * x14 (ix2 (lower l) j)) + ∑ l, val_main_v84 (F := Ideal) x0 x1 x2 x5 x6 x7 x8 x9 x10 x11 x12 x13 (ix3 b k l) * x14 (ix2 (upper l) j))
      + x15 (ix1 j) := by
  pointwise [val_main_v85, val_main_v86, val_main_v87, val_main_v88, val_main_v89, val_main_v90, val_main_v91]

/-- The first fine layer. -/
theorem fineFirst_read (b : Fin 1024) (k : Fin 4) (j : Fin 1024) :
    val_main_v98 (F := Ideal) x0 x1 x2 x5 x6 x7 x8 x9 x10 x11 x12 x13 x14 x15 (ix3 b k j) = gelu (val_main_v91 (F := Ideal) x0 x1 x2 x5 x6 x7 x8 x9 x10 x11 x12 x13 x14 x15 (ix3 b k j)) := by
  pointwise [val_main_v92, val_main_cst_14, val_main_v93, val_main_v94, val_main_v95, val_main_cst_15, val_main_v96, val_main_v97, val_main_v98]
  exact gelu_erfc _

/-- The second fine layer. -/
theorem fineSecond_read (b : Fin 1024) (k : Fin 4) (j : Fin 1024) :
    val_main_v109 (F := Ideal) x0 x1 x2 x5 x6 x7 x8 x9 x10 x11 x12 x13 x14 x15 x16 x17 (ix3 b k j) = gelu (dense (fun k j => x16 (ix2 k j)) (fun j => x17 (ix1 j)) (fun l => val_main_v98 (F := Ideal) x0 x1 x2 x5 x6 x7 x8 x9 x10 x11 x12 x13 x14 x15 (ix3 b k l)) j) := by
  pointwise [val_main_v99, val_main_v100, val_main_v101, val_main_v102, val_main_v103, val_main_cst_16, val_main_v104, val_main_v105, val_main_v106, val_main_cst_17, val_main_v107, val_main_v108, val_main_v109]
  exact gelu_erfc _

/-- The fine scores. -/
theorem fineThird_read (b : Fin 1024) (k : Fin 4) (j : Fin 128) :
    val_main_v113 (F := Ideal) x0 x1 x2 x5 x6 x7 x8 x9 x10 x11 x12 x13 x14 x15 x16 x17 x18 x19 (ix3 b k j) = dense (fun k j => x18 (ix2 k j)) (fun j => x19 (ix1 j)) (fun l => val_main_v109 (F := Ideal) x0 x1 x2 x5 x6 x7 x8 x9 x10 x11 x12 x13 x14 x15 x16 x17 (ix3 b k l)) j := by
  pointwise [val_main_v110, val_main_v111, val_main_v112, val_main_v113]
  rfl

/-- The big array before the updates. -/
theorem base_read (b : Fin 1024) (n : Fin 256) (f : Fin 128) :
    val_main_v117 (F := Ideal) x0 x1 x2 x5 x6 x7 x8 x9 x10 (ix3 b n f) = val_main_v53 (F := Ideal) x0 x1 x2 x5 x6 x7 x8 x9 x10 (ix2 b n) - Ideal.ofBits .f32 0x409B43D5#32 := by
  pointwise [val_main_v114, val_main_v115, val_main_v116, val_main_cst_18, val_main_v117]

/-- The updates. -/
theorem update_read (b : Fin 1024) (k : Fin 4) (f : Fin 128) :
    val_main_v136 (F := Ideal) x0 x1 x2 x5 x6 x7 x8 x9 x10 x11 x12 x13 x14 x15 x16 x17 x18 x19 (ix2 (slot b k) f) = update (fun f => val_main_v113 (F := Ideal) x0 x1 x2 x5 x6 x7 x8 x9 x10 x11 x12 x13 x14 x15 x16 x17 x18 x19 (ix3 b k f)) f := by
  dsimp only [slot]
  pointwise [val_main_v122, val_main_cst_19, val_main_v123, val_main_v124, val_main_v125, val_main_v126, val_main_v127, val_main_cst_20, val_main_v128, val_main_v129, val_main_v130, val_main_v131, val_main_v132, val_main_v133, val_main_cst_21, val_main_v134, val_main_v135, val_main_v136]
  exact congrArg₂ (· - ·) rfl (add_comm _ _)

/-- A small word is not wrapped. -/
theorem wrap_small : ∀ v : Fin 1024, ∀ a : BitVec 32, Scalar.select (IntOp.cmpi .slt (BitVec.ofNat 32 v.val) 0#32) a (BitVec.ofNat 32 v.val)
    = BitVec.ofNat 32 v.val := by
  intro v a
  have h : IntOp.cmpi .slt (BitVec.ofNat 32 v.val) 0#32 = 0#1 := by revert v; decide +kernel
  rw [h]
  rfl

/-- A small word read signed. -/
theorem toInt_small : ∀ v : Fin 1024, (BitVec.ofNat 32 v.val).toInt = (v.val : Int) := by decide +kernel

/-- The first index word of an update: its row. -/
theorem rowWord_read (b : Fin 1024) (k : Fin 4) :
    val_main_v149 (F := Ideal) x0 x1 x2 x5 x6 x7 x8 x9 x10 (ix2 (slot b k) 0) = BitVec.ofNat 32 b.val := by
  dsimp only [slot]
  pointwise [val_main_v118, val_main_v119, val_main_v120, val_main_v137, val_main_c_22, val_main_v138, val_main_v139, val_main_c_23, val_main_v140, val_main_v141, val_main_v142, val_main_c_24, val_main_v143, val_main_v144, val_main_c_25, val_main_v145, val_main_v146, val_main_v147, val_main_v148, val_main_v149]
  exact wrap_small b _

/-- The second index word of an update: its picked place. -/
theorem placeWord_read (b : Fin 1024) (k : Fin 4) (q : Fin 256) (h : val_main_indices (F := Ideal) x0 x1 x2 x5 x6 x7 x8 x9 x10 (ix2 b k) = BitVec.ofNat 32 q.val) :
    val_main_v149 (F := Ideal) x0 x1 x2 x5 x6 x7 x8 x9 x10 (ix2 (slot b k) 1) = BitVec.ofNat 32 q.val := by
  have e : val_main_v149 (F := Ideal) x0 x1 x2 x5 x6 x7 x8 x9 x10 (ix2 (slot b k) 1)
      = Scalar.select (IntOp.cmpi .slt (val_main_indices (F := Ideal) x0 x1 x2 x5 x6 x7 x8 x9 x10 (ix2 b k)) 0#32) (IntOp.addi (val_main_indices (F := Ideal) x0 x1 x2 x5 x6 x7 x8 x9 x10 (ix2 b k)) 256#32) (val_main_indices (F := Ideal) x0 x1 x2 x5 x6 x7 x8 x9 x10 (ix2 b k)) := by
    dsimp only [slot]
    pointwise [val_main_v121, val_main_v137, val_main_c_22, val_main_v138, val_main_v139, val_main_c_23, val_main_v140, val_main_v141, val_main_v142, val_main_c_24, val_main_v143, val_main_v144, val_main_c_25, val_main_v145, val_main_v146, val_main_v147, val_main_v148, val_main_v149]
  rw [e, h]
  exact wrap_small ⟨q.val, by omega⟩ _

/-- The gather's index word. -/
theorem gatherWord_read (b : Fin 1024) (k : Fin 4) (q : Fin 256) (h : val_main_indices (F := Ideal) x0 x1 x2 x5 x6 x7 x8 x9 x10 (ix2 b k) = BitVec.ofNat 32 q.val) :
    val_main_v59 (F := Ideal) x0 x1 x2 x5 x6 x7 x8 x9 x10 (ix3 b k 0) = BitVec.ofNat 32 q.val := by
  have e : val_main_v59 (F := Ideal) x0 x1 x2 x5 x6 x7 x8 x9 x10 (ix3 b k 0)
      = Scalar.select (IntOp.cmpi .slt (val_main_indices (F := Ideal) x0 x1 x2 x5 x6 x7 x8 x9 x10 (ix2 b k)) 0#32) (IntOp.addi (val_main_indices (F := Ideal) x0 x1 x2 x5 x6 x7 x8 x9 x10 (ix2 b k)) 256#32) (val_main_indices (F := Ideal) x0 x1 x2 x5 x6 x7 x8 x9 x10 (ix2 b k)) := by
    pointwise [val_main_v54, val_main_c, val_main_v55, val_main_v56, val_main_c_8, val_main_v57, val_main_v58, val_main_v59]
  rw [e, h]
  exact wrap_small ⟨q.val, by omega⟩ _

/-- The places the top four pick in a row of an array. -/
theorem topFour_read (x : S1024x256.Idx → EReal) (h : S1024x256.Slices (fun _ => 0) S1024x4) (b : Fin 1024) (k : Fin 4) :
    (Host.topK S1024x4 1 (fun u v : EReal => BitVec.ofBool (decide (v < u))) x h).2 (ix2 b k)
      = BitVec.ofNat 32 (sortedFrom (fun a b' : Fin 256 => decide (x (ix2 b b') < x (ix2 b a))) (k.castLE (by decide))).val := by
  have al : ∀ (j : S1024x256.Idx) (h1 : 1 < S1024x256.rank) (q : Fin 256), Shape.Idx.along (s := S1024x256) j ⟨1, h1⟩ q = ix2 (j 0) q := by
    intro j h1 q
    funext a
    match a with
    | ⟨0, _⟩ => rfl
    | ⟨1, _⟩ => rfl
  unfold Host.topK Host.sort2
  dsimp only
  simp only [show 1 < S1024x256.rank from by decide, dif_pos]
  unfold extractStridedSlice iotaInDim
  refine congrArg (fun q : Fin 256 => BitVec.ofNat 32 q.val) ?_
  generalize hj : (fun a => (⟨_, _⟩ : Fin (S1024x256.size a))) = j
  have e0 : j = ix2 b (k.castLE (by decide)) := by
    rw [← hj]
    funext a
    match a with
    | ⟨0, _⟩ => exact Fin.ext (Nat.zero_add _)
    | ⟨1, _⟩ => exact Fin.ext (Nat.zero_add _)
  subst e0
  refine (congrFun (al _ _ _) 1).trans ?_
  refine congrArg₂ (sortedFrom (n := 256)) (funext fun (a : Fin 256) => funext fun (a' : Fin 256) => ?_) rfl
  refine (congrArg₂ (fun u v => (BitVec.ofBool (decide (x u < x v)) == 1#1)) (al _ _ a') (al _ _ a)).trans ?_
  show (BitVec.ofBool (decide (x (ix2 b a') < x (ix2 b a))) == 1#1) = decide (x (ix2 b a') < x (ix2 b a))
  cases decide (x (ix2 b a') < x (ix2 b a)) <;> rfl

/-- The places the top four pick, of a row without a bottom. -/
theorem topK_read (b : Fin 1024) (k : Fin 4) (hx : ∀ n, (val_main_v53 (F := Ideal) x0 x1 x2 x5 x6 x7 x8 x9 x10 (ix2 b n) : EReal) ≠ ⊥) :
    val_main_indices (F := Ideal) x0 x1 x2 x5 x6 x7 x8 x9 x10 (ix2 b k) = BitVec.ofNat 32 (place (fun n => val_main_v53 (F := Ideal) x0 x1 x2 x5 x6 x7 x8 x9 x10 (ix2 b n)) k.val).val := by
  refine Eq.trans ?_ (congrArg (fun q : Fin 256 => BitVec.ofNat 32 q.val) (sortedFrom_eq_place _ hx k))
  exact topFour_read _ _ b k

/-- The gathered row. -/
theorem gather_read (b : Fin 1024) (k : Fin 4) (q : Fin 256) (j : Fin 1024) (h : val_main_indices (F := Ideal) x0 x1 x2 x5 x6 x7 x8 x9 x10 (ix2 b k) = BitVec.ofNat 32 q.val) :
    val_main_v60 (F := Ideal) x0 x1 x2 x5 x6 x7 x8 x9 x10 x11 (ix3 b k j) = x11 (ix2 q j) := by
  have hw := gatherWord_read x0 x1 x2 x5 x6 x7 x8 x9 x10 b k q h
  unfold val_main_v60 Host.gather
  generalize val_main_v59 (F := Ideal) x0 x1 x2 x5 x6 x7 x8 x9 x10 = w at hw
  have hs : gather_S256x1024_S1024x4x1_S1024x4x1024_2_0_n_n_0_2_11024.siIdx (ix3 b k j) ⟨0, by decide⟩ = ix3 b k 0 := by
    funext a
    apply Fin.ext
    match a with
    | ⟨0, _⟩ => rfl
    | ⟨1, _⟩ => rfl
    | ⟨2, _⟩ => rfl
  refine congrArg x11 (funext fun a => Fin.ext ?_)
  match a with
  | ⟨0, _⟩ =>
    show min (w (gather_S256x1024_S1024x4x1_S1024x4x1024_2_0_n_n_0_2_11024.siIdx (ix3 b k j) ⟨0, _⟩)).toInt.toNat 255 + 0 + 0 = q.val
    rw [hs, hw, toInt_small ⟨q.val, by omega⟩]
    have := q.isLt
    simp
    omega
  | ⟨1, _⟩ =>
    show 0 + 0 + j.val = j.val
    omega

/-- Where an update lands. -/
theorem lands_iff (w : IVec S4096x2 32) (u : Fin 4096) (g : Fin 128) (b : Fin 1024) (n : Fin 256) (f : Fin 128) :
    scatter_S1024x256x128_S4096x2_S4096x128_1_01_01_1.resultIdx? (ix2 u g) w = some (ix3 b n f)
      ↔ (w (ix2 u 0)).toInt = (b.val : Int) ∧ (w (ix2 u 1)).toInt = (n.val : Int) ∧ g = f := by
  have hs : ∀ q : Fin 2, scatter_S1024x256x128_S4096x2_S4096x128_1_01_01_1.siIdx (ix2 u g) q = ix2 u q := by
    intro q
    funext a
    apply Fin.ext
    match a with
    | ⟨0, _⟩ => rfl
    | ⟨1, _⟩ => rfl
  have e0 : scatter_S1024x256x128_S4096x2_S4096x128_1_01_01_1.start (ix2 u g) w 0 = (w (ix2 u 0)).toInt := by
    rw [← hs 0]; rfl
  have e1 : scatter_S1024x256x128_S4096x2_S4096x128_1_01_01_1.start (ix2 u g) w 1 = (w (ix2 u 1)).toInt := by
    rw [← hs 1]; rfl
  have e2 : scatter_S1024x256x128_S4096x2_S4096x128_1_01_01_1.start (ix2 u g) w 2 = 0 := rfl
  have w0 : scatter_S1024x256x128_S4096x2_S4096x128_1_01_01_1.window (ix2 u g) 0 = 0 := rfl
  have w1 : scatter_S1024x256x128_S4096x2_S4096x128_1_01_01_1.window (ix2 u g) 1 = 0 := rfl
  have w2 : scatter_S1024x256x128_S4096x2_S4096x128_1_01_01_1.window (ix2 u g) 2 = g.val := rfl
  rw [Routing.resultIdx?_eq_some]
  constructor
  · intro h
    have h0 := h 0
    have h1 := h 1
    have h2 := h 2
    rw [e0, w0] at h0
    rw [e1, w1] at h1
    rw [e2, w2] at h2
    refine ⟨by simpa using h0, by simpa using h1, Fin.ext ?_⟩
    have h3 : (0 : Int) + (g.val : Int) = (f.val : Int) := h2
    omega
  · rintro ⟨h0, h1, rfl⟩ a
    match a with
    | ⟨0, _⟩ => exact (congrArg₂ (· + ·) e0 (congrArg Nat.cast w0)).trans (by simpa using h0)
    | ⟨1, _⟩ => exact (congrArg₂ (· + ·) e1 (congrArg Nat.cast w1)).trans (by simpa using h1)
    | ⟨2, _⟩ => exact (congrArg₂ (· + ·) e2 (congrArg Nat.cast w2)).trans (zero_add _)

/-- The big array: four updates at most land at an entry. -/
theorem big_read (b : Fin 1024) (n : Fin 256) (f : Fin 128) (q : Fin 4 → Fin 256)
    (hq : ∀ k, val_main_indices (F := Ideal) x0 x1 x2 x5 x6 x7 x8 x9 x10 (ix2 b k) = BitVec.ofNat 32 (q k).val) :
    val_main_v150 (F := Ideal) x0 x1 x2 x5 x6 x7 x8 x9 x10 x11 x12 x13 x14 x15 x16 x17 x18 x19 (ix3 b n f) = entry (fun n => val_main_v53 (F := Ideal) x0 x1 x2 x5 x6 x7 x8 x9 x10 (ix2 b n)) q (fun k => update (fun f => val_main_v113 (F := Ideal) x0 x1 x2 x5 x6 x7 x8 x9 x10 x11 x12 x13 x14 x15 x16 x17 x18 x19 (ix3 b k f))) n f := by
  have hr : ∀ (b' : Fin 1024) (k : Fin 4), (val_main_v149 (F := Ideal) x0 x1 x2 x5 x6 x7 x8 x9 x10 (ix2 (slot b' k) 0)).toInt = (b'.val : Int) := by
    intro b' k
    rw [rowWord_read, toInt_small]
  have hp : ∀ k : Fin 4, (val_main_v149 (F := Ideal) x0 x1 x2 x5 x6 x7 x8 x9 x10 (ix2 (slot b k) 1)).toInt = ((q k).val : Int) := by
    intro k
    rw [placeWord_read x0 x1 x2 x5 x6 x7 x8 x9 x10 b k (q k) (hq k), toInt_small ⟨(q k).val, by omega⟩]
  have hu : ∀ (k : Fin 4), val_main_v136 (F := Ideal) x0 x1 x2 x5 x6 x7 x8 x9 x10 x11 x12 x13 x14 x15 x16 x17 x18 x19 (ix2 (slot b k) f) = update (fun f => val_main_v113 (F := Ideal) x0 x1 x2 x5 x6 x7 x8 x9 x10 x11 x12 x13 x14 x15 x16 x17 x18 x19 (ix3 b k f)) f := by
    intro k
    rw [update_read]
  have hb : val_main_v117 (F := Ideal) x0 x1 x2 x5 x6 x7 x8 x9 x10 (ix3 b n f) = val_main_v53 (F := Ideal) x0 x1 x2 x5 x6 x7 x8 x9 x10 (ix2 b n) - Ideal.ofBits .f32 0x409B43D5#32 := by rw [base_read]
  unfold val_main_v150
  generalize val_main_v149 (F := Ideal) x0 x1 x2 x5 x6 x7 x8 x9 x10 = w at hr hp
  generalize val_main_v136 (F := Ideal) x0 x1 x2 x5 x6 x7 x8 x9 x10 x11 x12 x13 x14 x15 x16 x17 x18 x19 = v at hu
  generalize val_main_v117 (F := Ideal) x0 x1 x2 x5 x6 x7 x8 x9 x10 = z at hb
  generalize val_main_v113 (F := Ideal) x0 x1 x2 x5 x6 x7 x8 x9 x10 x11 x12 x13 x14 x15 x16 x17 x18 x19 = y at hu
  show z (ix3 b n f) + ∑ j ∈ Finset.univ.filter (fun j => scatter_S1024x256x128_S4096x2_S4096x128_1_01_01_1.resultIdx? j w = some (ix3 b n f)), v j = _
  have hsum : ∑ j ∈ Finset.univ.filter (fun j => scatter_S1024x256x128_S4096x2_S4096x128_1_01_01_1.resultIdx? j w = some (ix3 b n f)), v j
      = ∑ k : Fin 4, if q k = n then v (ix2 (slot b k) f) else 0 := by
    rw [← Finset.sum_filter]
    symm
    refine Finset.sum_nbij (fun k => ix2 (slot b k) f) ?_ ?_ ?_ ?_
    · intro k hk
      have hk' := (Finset.mem_filter.1 hk).2
      refine Finset.mem_filter.2 ⟨Finset.mem_univ _, (lands_iff w _ _ b n f).2 ⟨hr b k, ?_, rfl⟩⟩
      rw [hp k, hk']
    · intro k _ k' _ h
      have h0 := congrArg Fin.val (congrFun h 0)
      have h1 : 4 * b.val + k.val = 4 * b.val + k'.val := h0
      exact Fin.ext (by omega)
    · intro j hj
      have hj' := (Finset.mem_filter.1 hj).2
      obtain ⟨u, g, rfl⟩ : ∃ u g, j = ix2 u g := ⟨j 0, j 1, by funext a; match a with | ⟨0, _⟩ => rfl | ⟨1, _⟩ => rfl⟩
      obtain ⟨h0, h1, rfl⟩ := (lands_iff w u g b n f).1 hj'
      obtain ⟨b', k, hu'⟩ : ∃ (b' : Fin 1024) (k : Fin 4), u.val = 4 * b'.val + k.val :=
        ⟨⟨u.val / 4, by omega⟩, ⟨u.val % 4, by omega⟩, by simp; omega⟩
      obtain rfl : (slot b' k : Fin 4096) = u := Fin.ext hu'.symm
      rw [hr b' k] at h0
      have hbb : b' = b := Fin.ext (by omega)
      subst hbb
      rw [hp k] at h1
      exact ⟨k, Finset.mem_filter.2 ⟨Finset.mem_univ _, Fin.ext (by omega)⟩, rfl⟩
    · intro k _
      rfl
  rw [hsum, hb]
  unfold entry
  dsimp only
  rw [Fin.sum_univ_four, ← hu 0, ← hu 1, ← hu 2, ← hu 3]
  simp only [add_assoc]

/-- The big array laid out as the output's columns after the first. -/
theorem laid_read (b : Fin 1024) (ch : Fin 16) (mm : Fin 2048) :
    val_main_v153 (F := Ideal) x0 x1 x2 x5 x6 x7 x8 x9 x10 x11 x12 x13 x14 x15 x16 x17 x18 x19 (ix2 b ⟨2048 * ch.val + mm.val, by omega⟩)
      = val_main_v150 (F := Ideal) x0 x1 x2 x5 x6 x7 x8 x9 x10 x11 x12 x13 x14 x15 x16 x17 x18 x19 (ix3 b ⟨16 * ch.val + mm.val / 16 % 16, by omega⟩ ⟨16 * (mm.val / 256) + mm.val % 16, by omega⟩) := by
  unfold val_main_v153
  refine (shapeCast_apply _ _ _ (ix6 b ch (⟨mm.val / 256, by omega⟩ : Fin 8) (⟨mm.val / 16 % 16, by omega⟩ : Fin 16) (⟨mm.val % 16 / 2, by omega⟩ : Fin 8) (⟨mm.val % 2, by omega⟩ : Fin 2)) ?_).trans ?_
  · rw [Shape.rowMajor_val_six, Shape.rowMajor_val_two]
    show ((((b.val * 16 + ch.val) * 8 + mm.val / 256) * 16 + mm.val / 16 % 16) * 8 + mm.val % 16 / 2) * 2 + mm.val % 2 = b.val * 32768 + (2048 * ch.val + mm.val)
    omega
  rw [val_main_v152_apply]
  unfold val_main_v151
  refine shapeCast_apply _ _ _ _ ?_
  rw [Shape.rowMajor_val_six, Shape.rowMajor_val_three]
  show (b.val * 256 + (16 * ch.val + mm.val / 16 % 16)) * 128 + (16 * (mm.val / 256) + mm.val % 16)
    = ((((b.val * 16 + ch.val) * 16 + mm.val / 16 % 16) * 8 + mm.val / 256) * 8 + mm.val % 16 / 2) * 2 + mm.val % 2
  omega

/-- The reference's weights as plain functions. -/
abbrev weights : Weights where
  g1 k := x1 (ix1 k)
  b1 k := x2 (ix1 k)
  nW k j := x3 (ix2 k j)
  nb j := x4 (ix1 j)
  cW1 k j := x5 (ix2 k j)
  cb1 j := x6 (ix1 j)
  cW2 k j := x7 (ix2 k j)
  cb2 j := x8 (ix1 j)
  cW3 k j := x9 (ix2 k j)
  cb3 j := x10 (ix1 j)
  emb n j := x11 (ix2 n j)
  g2 k := x12 (ix1 k)
  b2 k := x13 (ix1 k)
  fW1 k j := x14 (ix2 k j)
  fb1 j := x15 (ix1 j)
  fW2 k j := x16 (ix2 k j)
  fb2 j := x17 (ix1 j)
  fW3 k j := x18 (ix2 k j)
  fb3 j := x19 (ix1 j)

/-- The coarse scores of a row. -/
theorem score_read (b : Fin 1024) :
    (fun n => val_main_v53 (F := Ideal) x0 x1 x2 x5 x6 x7 x8 x9 x10 (ix2 b n)) = (weights x1 x2 x3 x4 x5 x6 x7 x8 x9 x10 x11 x12 x13 x14 x15 x16 x17 x18 x19).score (fun k => x0 (ix2 b k)) := by
  funext n
  rw [third_read]
  simp only [second_read, first_read, norm_read]
  rfl

/-- The word of a picked place. -/
theorem picked_read (b : Fin 1024) (hx : ∀ n, (weights x1 x2 x3 x4 x5 x6 x7 x8 x9 x10 x11 x12 x13 x14 x15 x16 x17 x18 x19).score (fun k => x0 (ix2 b k)) n ≠ ⊥) (k : Fin 4) :
    val_main_indices (F := Ideal) x0 x1 x2 x5 x6 x7 x8 x9 x10 (ix2 b k) = BitVec.ofNat 32 ((weights x1 x2 x3 x4 x5 x6 x7 x8 x9 x10 x11 x12 x13 x14 x15 x16 x17 x18 x19).picked (fun k => x0 (ix2 b k)) k).val := by
  have hs := score_read x0 x1 x2 x3 x4 x5 x6 x7 x8 x9 x10 x11 x12 x13 x14 x15 x16 x17 x18 x19 b
  rw [topK_read x0 x1 x2 x5 x6 x7 x8 x9 x10 b k (fun n => by rw [congrFun hs n]; exact hx n), hs]
  rfl

/-- The update of a branch. -/
theorem branch_read (b : Fin 1024) (hx : ∀ n, (weights x1 x2 x3 x4 x5 x6 x7 x8 x9 x10 x11 x12 x13 x14 x15 x16 x17 x18 x19).score (fun k => x0 (ix2 b k)) n ≠ ⊥) (k : Fin 4) :
    update (fun f => val_main_v113 (F := Ideal) x0 x1 x2 x5 x6 x7 x8 x9 x10 x11 x12 x13 x14 x15 x16 x17 x18 x19 (ix3 b k f)) = (weights x1 x2 x3 x4 x5 x6 x7 x8 x9 x10 x11 x12 x13 x14 x15 x16 x17 x18 x19).branch (fun k => x0 (ix2 b k)) k := by
  have hg := fun j => gather_read x0 x1 x2 x5 x6 x7 x8 x9 x10 x11 b k _ j (picked_read x0 x1 x2 x3 x4 x5 x6 x7 x8 x9 x10 x11 x12 x13 x14 x15 x16 x17 x18 x19 b hx k)
  refine congrArg update (funext fun f => ?_)
  rw [fineThird_read]
  simp only [fineSecond_read, fineFirst_read, joint_read, embNorm_read, norm_read, hg]
  rfl

/-- The reference's output at the no-op column. -/
theorem out_noop (b : Fin 1024) :
    val_main_v154 (F := Ideal) x0 x1 x2 x3 x4 x5 x6 x7 x8 x9 x10 x11 x12 x13 x14 x15 x16 x17 x18 x19 (ix2 b 0) = (weights x1 x2 x3 x4 x5 x6 x7 x8 x9 x10 x11 x12 x13 x14 x15 x16 x17 x18 x19).noop (fun k => x0 (ix2 b k)) := by
  have h : val_main_v154 (F := Ideal) x0 x1 x2 x3 x4 x5 x6 x7 x8 x9 x10 x11 x12 x13 x14 x15 x16 x17 x18 x19 (ix2 b 0) = val_main_v27 (F := Ideal) x0 x1 x2 x3 x4 (ix2 b 0) := by
    pointwise [val_main_v154]
  rw [h, noop_read]
  simp only [norm_read]
  rfl

/-- The reference's output at a column after the first. -/
theorem out_read (b : Fin 1024) (hx : ∀ n, (weights x1 x2 x3 x4 x5 x6 x7 x8 x9 x10 x11 x12 x13 x14 x15 x16 x17 x18 x19).score (fun k => x0 (ix2 b k)) n ≠ ⊥) (ch : Fin 16) (mm : Fin 2048) :
    val_main_v154 (F := Ideal) x0 x1 x2 x3 x4 x5 x6 x7 x8 x9 x10 x11 x12 x13 x14 x15 x16 x17 x18 x19 (ix2 b ⟨1 + 2048 * ch.val + mm.val, by omega⟩)
      = (weights x1 x2 x3 x4 x5 x6 x7 x8 x9 x10 x11 x12 x13 x14 x15 x16 x17 x18 x19).big (fun k => x0 (ix2 b k)) ⟨16 * ch.val + mm.val / 16 % 16, by omega⟩ ⟨16 * (mm.val / 256) + mm.val % 16, by omega⟩ := by
  have h : val_main_v154 (F := Ideal) x0 x1 x2 x3 x4 x5 x6 x7 x8 x9 x10 x11 x12 x13 x14 x15 x16 x17 x18 x19 (ix2 b ⟨1 + 2048 * ch.val + mm.val, by omega⟩) = val_main_v153 (F := Ideal) x0 x1 x2 x5 x6 x7 x8 x9 x10 x11 x12 x13 x14 x15 x16 x17 x18 x19 (ix2 b ⟨2048 * ch.val + mm.val, by omega⟩) := by
    unfold val_main_v154
    exact concatenate_apply_piece (t := S1024x32769) 1 _ _ _ 1 (by show 1 < 2; omega) S1024x32768 _ rfl rfl 1 rfl (ix2 b ⟨2048 * ch.val + mm.val, by omega⟩)
      (fun a ha => by fin_cases a; rfl; exact absurd rfl ha) (by show 1 + (2048 * ch.val + mm.val) = 1 + 2048 * ch.val + mm.val; omega)
  rw [h, laid_read, big_read _ _ _ _ _ _ _ _ _ _ _ _ _ _ _ _ _ _ b _ _ _ (picked_read x0 x1 x2 x3 x4 x5 x6 x7 x8 x9 x10 x11 x12 x13 x14 x15 x16 x17 x18 x19 b hx)]
  rw [score_read x0 x1 x2 x3 x4 x5 x6 x7 x8 x9 x10 x11 x12 x13 x14 x15 x16 x17 x18 x19 b]
  unfold Weights.big
  refine congrArg (fun u => entry _ _ u _ _) (funext fun k => ?_)
  exact branch_read x0 x1 x2 x3 x4 x5 x6 x7 x8 x9 x10 x11 x12 x13 x14 x15 x16 x17 x18 x19 b hx k

end Cert.ReferenceIdeal.Reads

end
-- ==== Proof.RunA.lean ====
/- The whole body of the kernel, run at the first grid point, where the weights are rounded into scratch and the row block is computed. The generated run of this
   case needs a larger budget than it is given; this is that run with the budget raised. -/
module

public import proofs.«01_k».proof.Proof.Gen.KernelIdeal.Frame.Runs

@[expose] public section

-- a rectangle's membership is decided coordinate by coordinate, so the long axes need a larger depth
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The kernel body run at the first grid point, where the weights are rounded into scratch and the row block is computed: from whole staging buffers holding the windows' blocks it ends
    with every input as it was and each buffer it stores into holding the listed pieces. -/
noncomputable def runA (c : Dev nD) (i : grid0.Coords) (arg2 : Memref sig .tc .vmem S256x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1024x256 .f32) (harg11 : arg11.IsWhole) (arg12 : Memref sig .tc .vmem S256 .f32) (harg12 : arg12.IsWhole) (arg13 : Memref sig .tc .vmem S256x1024 .f32) (harg13 : arg13.IsWhole) (arg14 : Memref sig .tc .vmem S1024 .f32) (harg14 : arg14.IsWhole) (arg15 : Memref sig .tc .vmem S1024 .f32) (harg15 : arg15.IsWhole) (arg16 : Memref sig .tc .vmem S2048x1024 .f32) (harg16 : arg16.IsWhole) (arg17 : Memref sig .tc .vmem S1024 .f32) (harg17 : arg17.IsWhole) (arg18 : Memref sig .tc .vmem S1024x1024 .f32) (harg18 : arg18.IsWhole) (arg19 : Memref sig .tc .vmem S1024 .f32) (harg19 : arg19.IsWhole) (arg20 : Memref sig .tc .vmem S1024x128 .f32) (harg20 : arg20.IsWhole) (arg21 : Memref sig .tc .vmem S128 .f32) (harg21 : arg21.IsWhole) (arg22 : Memref sig .tc .vmem S64x32769 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S256x1024 .bf16) (harg25 : arg25.IsWhole) (arg26 : Memref sig .tc .vmem S1024x1024 .bf16) (harg26 : arg26.IsWhole) (arg27 : Memref sig .tc .vmem S1024x128 .bf16) (harg27 : arg27.IsWhole) (arg28 : Memref sig .tc .vmem S256x1 .f32) (harg28 : arg28.IsWhole) (arg29 : Memref sig .tc .vmem S256x256 .f32) (harg29 : arg29.IsWhole) (arg30 : Memref sig .tc .vmem S256x4 .i32) (harg30 : arg30.IsWhole) (arg31 : Memref sig .tc .vmem S256x512 .f32) (harg31 : arg31.IsWhole) (hc0 : cond0_0 i) (hc1 : cond0_1 i)
    (x0 : Vec F S256x1024 .f32) (x1 : Vec F S1024 .f32) (x2 : Vec F S1024 .f32) (x3 : Vec F S1024x1 .f32) (x4 : Vec F S1 .f32) (x5 : Vec F S1024x1024 .f32) (x6 : Vec F S1024 .f32) (x7 : Vec F S1024x1024 .f32) (x8 : Vec F S1024 .f32) (x9 : Vec F S1024x256 .f32) (x10 : Vec F S256 .f32) (x11 : Vec F S256x1024 .f32) (x12 : Vec F S1024 .f32) (x13 : Vec F S1024 .f32) (x14 : Vec F S2048x1024 .f32) (x15 : Vec F S1024 .f32) (x16 : Vec F S1024x1024 .f32) (x17 : Vec F S1024 .f32) (x18 : Vec F S1024x128 .f32) (x19 : Vec F S128 .f32) :
    Σ' (L20 : List (View.Piece (Elt F) S64x32769 .f32)), Σ' (LS0 : List (View.Piece (Elt F) S1024x1024 .bf16)), Σ' (LS1 : List (View.Piece (Elt F) S1024x1024 .bf16)), Σ' (LS2 : List (View.Piece (Elt F) S256x1024 .bf16)), Σ' (LS3 : List (View.Piece (Elt F) S1024x1024 .bf16)), Σ' (LS4 : List (View.Piece (Elt F) S1024x128 .bf16)), Σ' (LS5 : List (View.Piece (Elt F) S256x1 .f32)), Σ' (LS6 : List (View.Piece (Elt F) S256x256 .f32)), Σ' (LS7 : List (View.Piece (Elt F) S256x4 .i32)), { LS8 : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1) ∗ (∃ f, arg25.view.loc (c : Thread nD τ) ↦[arg25.view.set]{fullShare} arg25.view.writes (Elt F) f LS2) ∗ (∃ f, arg26.view.loc (c : Thread nD τ) ↦[arg26.view.set]{fullShare} arg26.view.writes (Elt F) f LS3) ∗ (∃ f, arg27.view.loc (c : Thread nD τ) ↦[arg27.view.set]{fullShare} arg27.view.writes (Elt F) f LS4) ∗ (∃ f, arg28.view.loc (c : Thread nD τ) ↦[arg28.view.set]{fullShare} arg28.view.writes (Elt F) f LS5) ∗ (∃ f, arg29.view.loc (c : Thread nD τ) ↦[arg29.view.set]{fullShare} arg29.view.writes (Elt F) f LS6) ∗ (∃ f, arg30.view.loc (c : Thread nD τ) ↦[arg30.view.set]{fullShare} arg30.view.writes (Elt F) f LS7) ∗ (∃ f, arg31.view.loc (c : Thread nD τ) ↦[arg31.view.set]{fullShare} arg31.view.writes (Elt F) f LS8)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, ?_, ?_, ?_, fun E K => ?run⟩
  case run =>
    simp only [cc0__fused_kernel_eq_skeleton]; unfold cc0__fused_kernel_skel
    simp only [k0_part12_eq_skeleton, k0_part13_eq_skeleton, k0_part14_eq_skeleton, k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]; · iexists _; iexact H20
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Whole

end
-- ==== Proof.RunB.lean ====
/- The whole body of the kernel, run at the points that only expand rows already computed. The generated run of this
   case needs a larger budget than it is given; this is that run with the budget raised. -/
module

public import proofs.«01_k».proof.Proof.RunA

@[expose] public section

-- a rectangle's membership is decided coordinate by coordinate, so the long axes need a larger depth
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The kernel body run at the points that only expand rows already computed: from whole staging buffers holding the windows' blocks it ends
    with every input as it was and each buffer it stores into holding the listed pieces. -/
noncomputable def runB (c : Dev nD) (i : grid0.Coords) (arg2 : Memref sig .tc .vmem S256x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1024x256 .f32) (harg11 : arg11.IsWhole) (arg12 : Memref sig .tc .vmem S256 .f32) (harg12 : arg12.IsWhole) (arg13 : Memref sig .tc .vmem S256x1024 .f32) (harg13 : arg13.IsWhole) (arg14 : Memref sig .tc .vmem S1024 .f32) (harg14 : arg14.IsWhole) (arg15 : Memref sig .tc .vmem S1024 .f32) (harg15 : arg15.IsWhole) (arg16 : Memref sig .tc .vmem S2048x1024 .f32) (harg16 : arg16.IsWhole) (arg17 : Memref sig .tc .vmem S1024 .f32) (harg17 : arg17.IsWhole) (arg18 : Memref sig .tc .vmem S1024x1024 .f32) (harg18 : arg18.IsWhole) (arg19 : Memref sig .tc .vmem S1024 .f32) (harg19 : arg19.IsWhole) (arg20 : Memref sig .tc .vmem S1024x128 .f32) (harg20 : arg20.IsWhole) (arg21 : Memref sig .tc .vmem S128 .f32) (harg21 : arg21.IsWhole) (arg22 : Memref sig .tc .vmem S64x32769 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S256x1024 .bf16) (harg25 : arg25.IsWhole) (arg26 : Memref sig .tc .vmem S1024x1024 .bf16) (harg26 : arg26.IsWhole) (arg27 : Memref sig .tc .vmem S1024x128 .bf16) (harg27 : arg27.IsWhole) (arg28 : Memref sig .tc .vmem S256x1 .f32) (harg28 : arg28.IsWhole) (arg29 : Memref sig .tc .vmem S256x256 .f32) (harg29 : arg29.IsWhole) (arg30 : Memref sig .tc .vmem S256x4 .i32) (harg30 : arg30.IsWhole) (arg31 : Memref sig .tc .vmem S256x512 .f32) (harg31 : arg31.IsWhole) (hc0 : ¬cond0_0 i) (hc1 : ¬cond0_1 i)
    (x0 : Vec F S256x1024 .f32) (x1 : Vec F S1024 .f32) (x2 : Vec F S1024 .f32) (x3 : Vec F S1024x1 .f32) (x4 : Vec F S1 .f32) (x5 : Vec F S1024x1024 .f32) (x6 : Vec F S1024 .f32) (x7 : Vec F S1024x1024 .f32) (x8 : Vec F S1024 .f32) (x9 : Vec F S1024x256 .f32) (x10 : Vec F S256 .f32) (x11 : Vec F S256x1024 .f32) (x12 : Vec F S1024 .f32) (x13 : Vec F S1024 .f32) (x14 : Vec F S2048x1024 .f32) (x15 : Vec F S1024 .f32) (x16 : Vec F S1024x1024 .f32) (x17 : Vec F S1024 .f32) (x18 : Vec F S1024x128 .f32) (x19 : Vec F S128 .f32) (xs0 : Vec F S1024x1024 .bf16) (xs1 : Vec F S1024x1024 .bf16) (xs2 : Vec F S256x1024 .bf16) (xs3 : Vec F S1024x1024 .bf16) (xs4 : Vec F S1024x128 .bf16) (xs5 : Vec F S256x1 .f32) (xs6 : Vec F S256x256 .f32) (xs7 : Vec F S256x4 .i32) (xs8 : Vec F S256x512 .f32) :
    Σ' (L20 : List (View.Piece (Elt F) S64x32769 .f32)), Σ' (LS0 : List (View.Piece (Elt F) S1024x1024 .bf16)), Σ' (LS1 : List (View.Piece (Elt F) S1024x1024 .bf16)), Σ' (LS2 : List (View.Piece (Elt F) S256x1024 .bf16)), Σ' (LS3 : List (View.Piece (Elt F) S1024x1024 .bf16)), Σ' (LS4 : List (View.Piece (Elt F) S1024x128 .bf16)), Σ' (LS5 : List (View.Piece (Elt F) S256x1 .f32)), Σ' (LS6 : List (View.Piece (Elt F) S256x256 .f32)), Σ' (LS7 : List (View.Piece (Elt F) S256x4 .i32)), { LS8 : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4 ∗ owns (c : Thread nD τ) arg28 fullShare xs5 ∗ owns (c : Thread nD τ) arg29 fullShare xs6 ∗ owns (c : Thread nD τ) arg30 fullShare xs7 ∗ owns (c : Thread nD τ) arg31 fullShare xs8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ f, arg22.view.loc (c : Thread nD τ) ↦[arg22.view.set]{fullShare} arg22.view.writes (Elt F) f L20) ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4 ∗ owns (c : Thread nD τ) arg28 fullShare xs5 ∗ owns (c : Thread nD τ) arg29 fullShare xs6 ∗ owns (c : Thread nD τ) arg30 fullShare xs7 ∗ owns (c : Thread nD τ) arg31 fullShare xs8) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, [], [], [], [], [], [], [], [], [], fun E K => ?run⟩
  case run =>
    simp only [cc0__fused_kernel_eq_skeleton]; unfold cc0__fused_kernel_skel
    simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg23.eq_unread hfs0; obtain rfl := harg24.eq_unread hfs1; obtain rfl := harg25.eq_unread hfs2; obtain rfl := harg26.eq_unread hfs3; obtain rfl := harg27.eq_unread hfs4; obtain rfl := harg28.eq_unread hfs5; obtain rfl := harg29.eq_unread hfs6; obtain rfl := harg30.eq_unread hfs7; obtain rfl := harg31.eq_unread hfs8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]; · iexists _; iexact H20
    isplitl [HS0]
    · iexists _; isplitr; · ipureintro; exact harg23.read_unread _
      iexact HS0
    isplitl [HS1]
    · iexists _; isplitr; · ipureintro; exact harg24.read_unread _
      iexact HS1
    isplitl [HS2]
    · iexists _; isplitr; · ipureintro; exact harg25.read_unread _
      iexact HS2
    isplitl [HS3]
    · iexists _; isplitr; · ipureintro; exact harg26.read_unread _
      iexact HS3
    isplitl [HS4]
    · iexists _; isplitr; · ipureintro; exact harg27.read_unread _
      iexact HS4
    isplitl [HS5]
    · iexists _; isplitr; · ipureintro; exact harg28.read_unread _
      iexact HS5
    isplitl [HS6]
    · iexists _; isplitr; · ipureintro; exact harg29.read_unread _
      iexact HS6
    isplitl [HS7]
    · iexists _; isplitr; · ipureintro; exact harg30.read_unread _
      iexact HS7
    iexists _; isplitr; · ipureintro; exact harg31.read_unread _
    iexact HS8

end Cert.KernelIdeal.Whole

end
-- ==== Proof.RunC.lean ====
/- The whole body of the kernel, run at the later points that compute a new row block, the rounded weights being in scratch already. The generated run of this
   case needs a larger budget than it is given; this is that run with the budget raised. -/
module

public import proofs.«01_k».proof.Proof.RunB

@[expose] public section

-- a rectangle's membership is decided coordinate by coordinate, so the long axes need a larger depth
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The kernel body run at the later points that compute a new row block, the rounded weights being in scratch already: from whole staging buffers holding the windows' blocks it ends
    with every input as it was and each buffer it stores into holding the listed pieces. -/
noncomputable def runC (c : Dev nD) (i : grid0.Coords) (arg2 : Memref sig .tc .vmem S256x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024 .f32) (harg10 : arg10.IsWhole) (arg11 : Memref sig .tc .vmem S1024x256 .f32) (harg11 : arg11.IsWhole) (arg12 : Memref sig .tc .vmem S256 .f32) (harg12 : arg12.IsWhole) (arg13 : Memref sig .tc .vmem S256x1024 .f32) (harg13 : arg13.IsWhole) (arg14 : Memref sig .tc .vmem S1024 .f32) (harg14 : arg14.IsWhole) (arg15 : Memref sig .tc .vmem S1024 .f32) (harg15 : arg15.IsWhole) (arg16 : Memref sig .tc .vmem S2048x1024 .f32) (harg16 : arg16.IsWhole) (arg17 : Memref sig .tc .vmem S1024 .f32) (harg17 : arg17.IsWhole) (arg18 : Memref sig .tc .vmem S1024x1024 .f32) (harg18 : arg18.IsWhole) (arg19 : Memref sig .tc .vmem S1024 .f32) (harg19 : arg19.IsWhole) (arg20 : Memref sig .tc .vmem S1024x128 .f32) (harg20 : arg20.IsWhole) (arg21 : Memref sig .tc .vmem S128 .f32) (harg21 : arg21.IsWhole) (arg22 : Memref sig .tc .vmem S64x32769 .f32) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S256x1024 .bf16) (harg25 : arg25.IsWhole) (arg26 : Memref sig .tc .vmem S1024x1024 .bf16) (harg26 : arg26.IsWhole) (arg27 : Memref sig .tc .vmem S1024x128 .bf16) (harg27 : arg27.IsWhole) (arg28 : Memref sig .tc .vmem S256x1 .f32) (harg28 : arg28.IsWhole) (arg29 : Memref sig .tc .vmem S256x256 .f32) (harg29 : arg29.IsWhole) (arg30 : Memref sig .tc .vmem S256x4 .i32) (harg30 : arg30.IsWhole) (arg31 : Memref sig .tc .vmem S256x512 .f32) (harg31 : arg31.IsWhole) (hc0 : ¬cond0_0 i) (hc1 : cond0_1 i)
    (x0 : Vec F S256x1024 .f32) (x1 : Vec F S1024 .f32) (x2 : Vec F S1024 .f32) (x3 : Vec F S1024x1 .f32) (x4 : Vec F S1 .f32) (x5 : Vec F S1024x1024 .f32) (x6 : Vec F S1024 .f32) (x7 : Vec F S1024x1024 .f32) (x8 : Vec F S1024 .f32) (x9 : Vec F S1024x256 .f32) (x10 : Vec F S256 .f32) (x11 : Vec F S256x1024 .f32) (x12 : Vec F S1024 .f32) (x13 : Vec F S1024 .f32) (x14 : Vec F S2048x1024 .f32) (x15 : Vec F S1024 .f32) (x16 : Vec F S1024x1024 .f32) (x17 : Vec F S1024 .f32) (x18 : Vec F S1024x128 .f32) (x19 : Vec F S128 .f32) (xs0 : Vec F S1024x1024 .bf16) (xs1 : Vec F S1024x1024 .bf16) (xs2 : Vec F S256x1024 .bf16) (xs3 : Vec F S1024x1024 .bf16) (xs4 : Vec F S1024x128 .bf16) :
    Σ' (L20 : List (View.Piece (Elt F) S64x32769 .f32)), Σ' (LS0 : List (View.Piece (Elt F) S1024x1024 .bf16)), Σ' (LS1 : List (View.Piece (Elt F) S1024x1024 .bf16)), Σ' (LS2 : List (View.Piece (Elt F) S256x1024 .bf16)), Σ' (LS3 : List (View.Piece (Elt F) S1024x1024 .bf16)), Σ' (LS4 : List (View.Piece (Elt F) S1024x128 .bf16)), Σ' (LS5 : List (View.Piece (Elt F) S256x1 .f32)), Σ' (LS6 : List (View.Piece (Elt F) S256x256 .f32)), Σ' (LS7 : List (View.Piece (Elt F) S256x4 .i32)), { LS8 : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ f, arg22.view.loc (c : Thread nD τ) ↦[arg22.view.set]{fullShare} arg22.view.writes (Elt F) f L20) ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4 ∗ (∃ f, arg28.view.loc (c : Thread nD τ) ↦[arg28.view.set]{fullShare} arg28.view.writes (Elt F) f LS5) ∗ (∃ f, arg29.view.loc (c : Thread nD τ) ↦[arg29.view.set]{fullShare} arg29.view.writes (Elt F) f LS6) ∗ (∃ f, arg30.view.loc (c : Thread nD τ) ↦[arg30.view.set]{fullShare} arg30.view.writes (Elt F) f LS7) ∗ (∃ f, arg31.view.loc (c : Thread nD τ) ↦[arg31.view.set]{fullShare} arg31.view.writes (Elt F) f LS8)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, [], [], [], [], [], ?_, ?_, ?_, ?_, fun E K => ?run⟩
  case run =>
    simp only [cc0__fused_kernel_eq_skeleton]; unfold cc0__fused_kernel_skel
    simp only [k0_part12_eq_skeleton, k0_part13_eq_skeleton, k0_part14_eq_skeleton, k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg23.eq_unread hfs0; obtain rfl := harg24.eq_unread hfs1; obtain rfl := harg25.eq_unread hfs2; obtain rfl := harg26.eq_unread hfs3; obtain rfl := harg27.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]; · iexists _; iexact H20
    isplitl [HS0]
    · iexists _; isplitr; · ipureintro; exact harg23.read_unread _
      iexact HS0
    isplitl [HS1]
    · iexists _; isplitr; · ipureintro; exact harg24.read_unread _
      iexact HS1
    isplitl [HS2]
    · iexists _; isplitr; · ipureintro; exact harg25.read_unread _
      iexact HS2
    isplitl [HS3]
    · iexists _; isplitr; · ipureintro; exact harg26.read_unread _
      iexact HS3
    isplitl [HS4]
    · iexists _; isplitr; · ipureintro; exact harg27.read_unread _
      iexact HS4
    isplitl [HS5]; · iexists _; iexact HS5
    isplitl [HS6]; · iexists _; iexact HS6
    isplitl [HS7]; · iexists _; iexact HS7
    iexists _; iexact HS8

end Cert.KernelIdeal.Whole

end
-- ==== Proof.Body.lean ====
/- The kernel's run, whole: what the output buffer and the nine carried buffers hold after each grid point, the
   invariant the pipeline keeps between points, the body's obligation at a generic point, the launch, the frame, and
   the output array read off it. Three kinds of point: the first (`A`), a later point that starts a new row block
   (`C`), and a point that only expands sixty-four more rows of the block in hand (`B`). -/
module

public import proofs.«01_k».proof.Proof.RunC
public import Idealize.ShloMosaic.Lib.Claim
public import Idealize.ShloMosaic.Lib.Pipeline.Value

@[expose] public section

-- a rectangle's membership is decided coordinate by coordinate, so the long axes need a larger depth
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the nine scratch buffers hold between points. -/
abbrev Carried (F : FTy → Type) [FloatOps F] : Type :=
  Vec F S1024x1024 .bf16 × Vec F S1024x1024 .bf16 × Vec F S256x1024 .bf16 × Vec F S1024x1024 .bf16 × Vec F S1024x128 .bf16 × Vec F S256x1 .f32 × Vec F S256x256 .f32 × Vec F S256x4 .i32 × Vec F S256x512 .f32

/-- The run of the first point, at the point's own buffers and blocks. -/
abbrev atA (c : Dev nD) (t : Fin cfg0.N) (h0 : t.val % 16 = 0) (h1 : t.val % 4 = 0) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _)
    ((hcond0_0 t).mpr h0) ((hcond0_1 t).mpr h1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- The pieces stored into the output buffer at the first point cover it. -/
theorem coverA (c : Dev nD) (t : Fin cfg0.N) (h0 : t.val % 16 = 0) (h1 : t.val % 4 = 0) (y : S64x32769.Idx) :
    ∃ pc ∈ (atA m c t h0 h1).1, y ∈ pc.1.set :=
  View.cover_of_tiledL (atA m c t h0 h1).1 S64x32769.size (by sl_kernel_rfl) y

/-- What the first point leaves in the output buffer. -/
def outA (c : Dev nD) (t : Fin cfg0.N) (h0 : t.val % 16 = 0) (h1 : t.val % 4 = 0) : Vec F S64x32769 .f32 :=
  VO0_20.read (Elt F) (VO0_20.writes (Elt F) VO0_20.junk (atA m c t h0 h1).1)

/-- The pieces stored into carried buffer 0 at the first point cover it. -/
theorem coverA_0 (c : Dev nD) (t : Fin cfg0.N) (h0 : t.val % 16 = 0) (h1 : t.val % 4 = 0) (y : S1024x1024.Idx) :
    ∃ pc ∈ (atA m c t h0 h1).2.1, y ∈ pc.1.set :=
  View.cover_of_tiledL (atA m c t h0 h1).2.1 S1024x1024.size (by sl_kernel_rfl) y

/-- What the first point leaves in carried buffer 0. -/
def soutA_0 (c : Dev nD) (t : Fin cfg0.N) (h0 : t.val % 16 = 0) (h1 : t.val % 4 = 0) : Vec F S1024x1024 .bf16 :=
  VS0_0.read (Elt F) (VS0_0.writes (Elt F) VS0_0.junk (atA m c t h0 h1).2.1)

/-- The pieces stored into carried buffer 1 at the first point cover it. -/
theorem coverA_1 (c : Dev nD) (t : Fin cfg0.N) (h0 : t.val % 16 = 0) (h1 : t.val % 4 = 0) (y : S1024x1024.Idx) :
    ∃ pc ∈ (atA m c t h0 h1).2.2.1, y ∈ pc.1.set :=
  View.cover_of_tiledL (atA m c t h0 h1).2.2.1 S1024x1024.size (by sl_kernel_rfl) y

/-- What the first point leaves in carried buffer 1. -/
def soutA_1 (c : Dev nD) (t : Fin cfg0.N) (h0 : t.val % 16 = 0) (h1 : t.val % 4 = 0) : Vec F S1024x1024 .bf16 :=
  VS0_1.read (Elt F) (VS0_1.writes (Elt F) VS0_1.junk (atA m c t h0 h1).2.2.1)

/-- The pieces stored into carried buffer 2 at the first point cover it. -/
theorem coverA_2 (c : Dev nD) (t : Fin cfg0.N) (h0 : t.val % 16 = 0) (h1 : t.val % 4 = 0) (y : S256x1024.Idx) :
    ∃ pc ∈ (atA m c t h0 h1).2.2.2.1, y ∈ pc.1.set :=
  View.cover_of_tiledL (atA m c t h0 h1).2.2.2.1 S256x1024.size (by sl_kernel_rfl) y

/-- What the first point leaves in carried buffer 2. -/
def soutA_2 (c : Dev nD) (t : Fin cfg0.N) (h0 : t.val % 16 = 0) (h1 : t.val % 4 = 0) : Vec F S256x1024 .bf16 :=
  VS0_2.read (Elt F) (VS0_2.writes (Elt F) VS0_2.junk (atA m c t h0 h1).2.2.2.1)

/-- The pieces stored into carried buffer 3 at the first point cover it. -/
theorem coverA_3 (c : Dev nD) (t : Fin cfg0.N) (h0 : t.val % 16 = 0) (h1 : t.val % 4 = 0) (y : S1024x1024.Idx) :
    ∃ pc ∈ (atA m c t h0 h1).2.2.2.2.1, y ∈ pc.1.set :=
  View.cover_of_tiledL (atA m c t h0 h1).2.2.2.2.1 S1024x1024.size (by sl_kernel_rfl) y

/-- What the first point leaves in carried buffer 3. -/
def soutA_3 (c : Dev nD) (t : Fin cfg0.N) (h0 : t.val % 16 = 0) (h1 : t.val % 4 = 0) : Vec F S1024x1024 .bf16 :=
  VS0_3.read (Elt F) (VS0_3.writes (Elt F) VS0_3.junk (atA m c t h0 h1).2.2.2.2.1)

/-- The pieces stored into carried buffer 4 at the first point cover it. -/
theorem coverA_4 (c : Dev nD) (t : Fin cfg0.N) (h0 : t.val % 16 = 0) (h1 : t.val % 4 = 0) (y : S1024x128.Idx) :
    ∃ pc ∈ (atA m c t h0 h1).2.2.2.2.2.1, y ∈ pc.1.set :=
  View.cover_of_tiledL (atA m c t h0 h1).2.2.2.2.2.1 S1024x128.size (by sl_kernel_rfl) y

/-- What the first point leaves in carried buffer 4. -/
def soutA_4 (c : Dev nD) (t : Fin cfg0.N) (h0 : t.val % 16 = 0) (h1 : t.val % 4 = 0) : Vec F S1024x128 .bf16 :=
  VS0_4.read (Elt F) (VS0_4.writes (Elt F) VS0_4.junk (atA m c t h0 h1).2.2.2.2.2.1)

/-- The pieces stored into carried buffer 5 at the first point cover it. -/
theorem coverA_5 (c : Dev nD) (t : Fin cfg0.N) (h0 : t.val % 16 = 0) (h1 : t.val % 4 = 0) (y : S256x1.Idx) :
    ∃ pc ∈ (atA m c t h0 h1).2.2.2.2.2.2.1, y ∈ pc.1.set :=
  View.cover_of_tiledL (atA m c t h0 h1).2.2.2.2.2.2.1 S256x1.size (by sl_kernel_rfl) y

/-- What the first point leaves in carried buffer 5. -/
def soutA_5 (c : Dev nD) (t : Fin cfg0.N) (h0 : t.val % 16 = 0) (h1 : t.val % 4 = 0) : Vec F S256x1 .f32 :=
  VS0_5.read (Elt F) (VS0_5.writes (Elt F) VS0_5.junk (atA m c t h0 h1).2.2.2.2.2.2.1)

/-- The pieces stored into carried buffer 6 at the first point cover it. -/
theorem coverA_6 (c : Dev nD) (t : Fin cfg0.N) (h0 : t.val % 16 = 0) (h1 : t.val % 4 = 0) (y : S256x256.Idx) :
    ∃ pc ∈ (atA m c t h0 h1).2.2.2.2.2.2.2.1, y ∈ pc.1.set :=
  View.cover_of_tiledL (atA m c t h0 h1).2.2.2.2.2.2.2.1 S256x256.size (by sl_kernel_rfl) y

/-- What the first point leaves in carried buffer 6. -/
def soutA_6 (c : Dev nD) (t : Fin cfg0.N) (h0 : t.val % 16 = 0) (h1 : t.val % 4 = 0) : Vec F S256x256 .f32 :=
  VS0_6.read (Elt F) (VS0_6.writes (Elt F) VS0_6.junk (atA m c t h0 h1).2.2.2.2.2.2.2.1)

/-- The pieces stored into carried buffer 7 at the first point cover it. -/
theorem coverA_7 (c : Dev nD) (t : Fin cfg0.N) (h0 : t.val % 16 = 0) (h1 : t.val % 4 = 0) (y : S256x4.Idx) :
    ∃ pc ∈ (atA m c t h0 h1).2.2.2.2.2.2.2.2.1, y ∈ pc.1.set :=
  View.cover_of_tiledL (atA m c t h0 h1).2.2.2.2.2.2.2.2.1 S256x1.size (by sl_kernel_rfl) y

/-- What the first point leaves in carried buffer 7. -/
def soutA_7 (c : Dev nD) (t : Fin cfg0.N) (h0 : t.val % 16 = 0) (h1 : t.val % 4 = 0) : Vec F S256x4 .i32 :=
  VS0_7.read (Elt F) (VS0_7.writes (Elt F) VS0_7.junk (atA m c t h0 h1).2.2.2.2.2.2.2.2.1)

/-- The pieces stored into carried buffer 8 at the first point cover it. -/
theorem coverA_8 (c : Dev nD) (t : Fin cfg0.N) (h0 : t.val % 16 = 0) (h1 : t.val % 4 = 0) (y : S256x512.Idx) :
    ∃ pc ∈ (atA m c t h0 h1).2.2.2.2.2.2.2.2.2.1, y ∈ pc.1.set :=
  View.cover_of_tiledL (atA m c t h0 h1).2.2.2.2.2.2.2.2.2.1 S256x128.size (by sl_kernel_rfl) y

/-- What the first point leaves in carried buffer 8. -/
def soutA_8 (c : Dev nD) (t : Fin cfg0.N) (h0 : t.val % 16 = 0) (h1 : t.val % 4 = 0) : Vec F S256x512 .f32 :=
  VS0_8.read (Elt F) (VS0_8.writes (Elt F) VS0_8.junk (atA m c t h0 h1).2.2.2.2.2.2.2.2.2.1)

/-- All that the first point leaves: the output buffer, then the carried buffers. -/
def pointA (c : Dev nD) (t : Fin cfg0.N) (h0 : t.val % 16 = 0) (h1 : t.val % 4 = 0) : Vec F S64x32769 .f32 × Carried F :=
  (outA m c t h0 h1, (soutA_0 m c t h0 h1, soutA_1 m c t h0 h1, soutA_2 m c t h0 h1, soutA_3 m c t h0 h1, soutA_4 m c t h0 h1, soutA_5 m c t h0 h1, soutA_6 m c t h0 h1, soutA_7 m c t h0 h1, soutA_8 m c t h0 h1))

/-- The run of a point that only expands rows, at the point's own buffers and blocks. -/
abbrev atB (c : Dev nD) (t : Fin cfg0.N) (h0 : ¬t.val % 16 = 0) (h1 : ¬t.val % 4 = 0) (p : Carried F) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _)
    (fun h => h0 ((hcond0_0 t).mp h)) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.1 p.2.1 p.2.2.1 p.2.2.2.1 p.2.2.2.2.1 p.2.2.2.2.2.1 p.2.2.2.2.2.2.1 p.2.2.2.2.2.2.2.1 p.2.2.2.2.2.2.2.2

/-- The pieces stored into the output buffer at a point that only expands rows cover it. -/
theorem coverB (c : Dev nD) (t : Fin cfg0.N) (h0 : ¬t.val % 16 = 0) (h1 : ¬t.val % 4 = 0) (p : Carried F) (y : S64x32769.Idx) :
    ∃ pc ∈ (atB m c t h0 h1 p).1, y ∈ pc.1.set :=
  View.cover_of_tiledL (atB m c t h0 h1 p).1 S64x32769.size (by sl_kernel_rfl) y

/-- What a point that only expands rows leaves in the output buffer. -/
def outB (c : Dev nD) (t : Fin cfg0.N) (h0 : ¬t.val % 16 = 0) (h1 : ¬t.val % 4 = 0) (p : Carried F) : Vec F S64x32769 .f32 :=
  VO0_20.read (Elt F) (VO0_20.writes (Elt F) VO0_20.junk (atB m c t h0 h1 p).1)

/-- All that a point that only expands rows leaves: the output buffer, then the carried buffers. -/
def pointB (c : Dev nD) (t : Fin cfg0.N) (h0 : ¬t.val % 16 = 0) (h1 : ¬t.val % 4 = 0) (p : Carried F) : Vec F S64x32769 .f32 × Carried F :=
  (outB m c t h0 h1 p, p)

/-- The run of a later point that computes a new row block, at the point's own buffers and blocks. -/
abbrev atC (c : Dev nD) (t : Fin cfg0.N) (h0 : ¬t.val % 16 = 0) (h1 : t.val % 4 = 0) (p : Carried F) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _)
    (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.1 p.2.1 p.2.2.1 p.2.2.2.1 p.2.2.2.2.1

/-- The pieces stored into the output buffer at a later point that computes a new row block cover it. -/
theorem coverC (c : Dev nD) (t : Fin cfg0.N) (h0 : ¬t.val % 16 = 0) (h1 : t.val % 4 = 0) (p : Carried F) (y : S64x32769.Idx) :
    ∃ pc ∈ (atC m c t h0 h1 p).1, y ∈ pc.1.set :=
  View.cover_of_tiledL (atC m c t h0 h1 p).1 S64x32769.size (by sl_kernel_rfl) y

/-- What a later point that computes a new row block leaves in the output buffer. -/
def outC (c : Dev nD) (t : Fin cfg0.N) (h0 : ¬t.val % 16 = 0) (h1 : t.val % 4 = 0) (p : Carried F) : Vec F S64x32769 .f32 :=
  VO0_20.read (Elt F) (VO0_20.writes (Elt F) VO0_20.junk (atC m c t h0 h1 p).1)

/-- The pieces stored into carried buffer 5 at a later point that computes a new row block cover it. -/
theorem coverC_5 (c : Dev nD) (t : Fin cfg0.N) (h0 : ¬t.val % 16 = 0) (h1 : t.val % 4 = 0) (p : Carried F) (y : S256x1.Idx) :
    ∃ pc ∈ (atC m c t h0 h1 p).2.2.2.2.2.2.1, y ∈ pc.1.set :=
  View.cover_of_tiledL (atC m c t h0 h1 p).2.2.2.2.2.2.1 S256x1.size (by sl_kernel_rfl) y

/-- What a later point that computes a new row block leaves in carried buffer 5. -/
def soutC_5 (c : Dev nD) (t : Fin cfg0.N) (h0 : ¬t.val % 16 = 0) (h1 : t.val % 4 = 0) (p : Carried F) : Vec F S256x1 .f32 :=
  VS0_5.read (Elt F) (VS0_5.writes (Elt F) VS0_5.junk (atC m c t h0 h1 p).2.2.2.2.2.2.1)

/-- The pieces stored into carried buffer 6 at a later point that computes a new row block cover it. -/
theorem coverC_6 (c : Dev nD) (t : Fin cfg0.N) (h0 : ¬t.val % 16 = 0) (h1 : t.val % 4 = 0) (p : Carried F) (y : S256x256.Idx) :
    ∃ pc ∈ (atC m c t h0 h1 p).2.2.2.2.2.2.2.1, y ∈ pc.1.set :=
  View.cover_of_tiledL (atC m c t h0 h1 p).2.2.2.2.2.2.2.1 S256x256.size (by sl_kernel_rfl) y

/-- What a later point that computes a new row block leaves in carried buffer 6. -/
def soutC_6 (c : Dev nD) (t : Fin cfg0.N) (h0 : ¬t.val % 16 = 0) (h1 : t.val % 4 = 0) (p : Carried F) : Vec F S256x256 .f32 :=
  VS0_6.read (Elt F) (VS0_6.writes (Elt F) VS0_6.junk (atC m c t h0 h1 p).2.2.2.2.2.2.2.1)

/-- The pieces stored into carried buffer 7 at a later point that computes a new row block cover it. -/
theorem coverC_7 (c : Dev nD) (t : Fin cfg0.N) (h0 : ¬t.val % 16 = 0) (h1 : t.val % 4 = 0) (p : Carried F) (y : S256x4.Idx) :
    ∃ pc ∈ (atC m c t h0 h1 p).2.2.2.2.2.2.2.2.1, y ∈ pc.1.set :=
  View.cover_of_tiledL (atC m c t h0 h1 p).2.2.2.2.2.2.2.2.1 S256x1.size (by sl_kernel_rfl) y

/-- What a later point that computes a new row block leaves in carried buffer 7. -/
def soutC_7 (c : Dev nD) (t : Fin cfg0.N) (h0 : ¬t.val % 16 = 0) (h1 : t.val % 4 = 0) (p : Carried F) : Vec F S256x4 .i32 :=
  VS0_7.read (Elt F) (VS0_7.writes (Elt F) VS0_7.junk (atC m c t h0 h1 p).2.2.2.2.2.2.2.2.1)

/-- The pieces stored into carried buffer 8 at a later point that computes a new row block cover it. -/
theorem coverC_8 (c : Dev nD) (t : Fin cfg0.N) (h0 : ¬t.val % 16 = 0) (h1 : t.val % 4 = 0) (p : Carried F) (y : S256x512.Idx) :
    ∃ pc ∈ (atC m c t h0 h1 p).2.2.2.2.2.2.2.2.2.1, y ∈ pc.1.set :=
  View.cover_of_tiledL (atC m c t h0 h1 p).2.2.2.2.2.2.2.2.2.1 S256x128.size (by sl_kernel_rfl) y

/-- What a later point that computes a new row block leaves in carried buffer 8. -/
def soutC_8 (c : Dev nD) (t : Fin cfg0.N) (h0 : ¬t.val % 16 = 0) (h1 : t.val % 4 = 0) (p : Carried F) : Vec F S256x512 .f32 :=
  VS0_8.read (Elt F) (VS0_8.writes (Elt F) VS0_8.junk (atC m c t h0 h1 p).2.2.2.2.2.2.2.2.2.1)

/-- All that a later point that computes a new row block leaves: the output buffer, then the carried buffers. -/
def pointC (c : Dev nD) (t : Fin cfg0.N) (h0 : ¬t.val % 16 = 0) (h1 : t.val % 4 = 0) (p : Carried F) : Vec F S64x32769 .f32 × Carried F :=
  (outC m c t h0 h1 p, (p.1, p.2.1, p.2.2.1, p.2.2.2.1, p.2.2.2.2.1, soutC_5 m c t h0 h1 p, soutC_6 m c t h0 h1 p, soutC_7 m c t h0 h1 p, soutC_8 m c t h0 h1 p))

/-- What the output buffer and the carried buffers hold after point `n`, by recursion over the points. -/
def held (c : Dev nD) : (n : ℕ) → n < cfg0.N → Vec F S64x32769 .f32 × Carried F
  | 0, hn => pointA m c ⟨0, hn⟩ rfl rfl
  | n + 1, hn =>
    if h0 : (n + 1) % 16 = 0 then
      False.elim (by have hN : n + 1 < 16 := lt_of_lt_of_eq hn (show cfg0.N = 16 from N_0); omega)
    else
      if h1 : (n + 1) % 4 = 0 then pointC m c ⟨n + 1, hn⟩ h0 h1 (held c n (Nat.lt_of_succ_lt hn)).2
      else pointB m c ⟨n + 1, hn⟩ h0 h1 (held c n (Nat.lt_of_succ_lt hn)).2

/-- After the first point. -/
theorem held_A (c : Dev nD) (t : Fin cfg0.N) (h0 : t.val % 16 = 0) (h1 : t.val % 4 = 0) :
    held m c t.val t.isLt = pointA m c t h0 h1 := by
  obtain ⟨n, hn⟩ := t
  cases n with
  | zero => rfl
  | succ n =>
    have hN : n + 1 < 16 := lt_of_lt_of_eq hn (show cfg0.N = 16 from N_0)
    dsimp only at h0
    omega

/-- After a point that only expands rows. -/
theorem held_B (c : Dev nD) (t : Fin cfg0.N) (h0 : ¬t.val % 16 = 0) (h1 : ¬t.val % 4 = 0) :
    held m c t.val t.isLt = pointB m c t h0 h1 (held m c (t.val - 1) (lt_of_le_of_lt (Nat.sub_le _ _) t.isLt)).2 := by
  obtain ⟨n, hn⟩ := t
  cases n with
  | zero => exact absurd (Nat.zero_mod _) h0
  | succ n => exact (dif_neg h0).trans ((dif_neg h1).trans rfl)

/-- After a later point that computes a new row block. -/
theorem held_C (c : Dev nD) (t : Fin cfg0.N) (h0 : ¬t.val % 16 = 0) (h1 : t.val % 4 = 0) :
    held m c t.val t.isLt = pointC m c t h0 h1 (held m c (t.val - 1) (lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The carried buffers owned at contents `p`, and the generator register at some state. -/
def Between (c : Dev nD) (p : Carried F) : sProp 𝕄 :=
  iprop(iprop(owns (c : Thread nD τ) scM0_0 fullShare p.1 ∗ owns (c : Thread nD τ) scM0_1 fullShare p.2.1 ∗ owns (c : Thread nD τ) scM0_2 fullShare p.2.2.1 ∗ owns (c : Thread nD τ) scM0_3 fullShare p.2.2.2.1 ∗ owns (c : Thread nD τ) scM0_4 fullShare p.2.2.2.2.1 ∗ owns (c : Thread nD τ) scM0_5 fullShare p.2.2.2.2.2.1 ∗ owns (c : Thread nD τ) scM0_6 fullShare p.2.2.2.2.2.2.1 ∗ owns (c : Thread nD τ) scM0_7 fullShare p.2.2.2.2.2.2.2.1 ∗ owns (c : Thread nD τ) scM0_8 fullShare p.2.2.2.2.2.2.2.2) ∗ (∃ r, prngReg c r))

/-- The invariant before position `n`: before the first point every carried buffer at anything; afterwards at what the
    point before left in it. -/
def Inv (c : Dev nD) : (n : ℕ) → n ≤ cfg0.N → sProp 𝕄
  | 0, _ => Pipeline.ΦA spec0 c
  | n + 1, hn => Between c (held m c n hn).2

/-- The invariant before a point that is not the first. -/
theorem Inv_pos (c : Dev nD) (n : ℕ) (h : n ≤ cfg0.N) (hz : n ≠ 0) :
    Inv m c n h = Between c (held m c (n - 1) (by omega)).2 := by
  cases n with
  | zero => exact absurd rfl hz
  | succ n => rfl

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (held m c t.val t.isLt).1
    | ⟨_ + 21, h⟩ => absurd h (Nat.not_lt.2 (Nat.le_add_left _ _))
  Φ t := Inv m c t.val (Nat.le_of_lt_succ t.isLt)
  q _ := fullShare
  owed _ := 0

/-- The proof data's arrays are the contents at region entry. -/
theorem A_eq (c : Dev nD) (w : Fin cfg0.W) : (dats m 0 c).A w = V m c (Pipeline.arrRef spec0 w) := by
  dsimp only [dats]

/-- The invariant at a point's start. -/
theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = (held m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)))

/-- What the body returns at point `t`. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t) ∗ owns (c : Thread nD τ) (ms0_19 t) fullShare ((dats m 0 c).after 19 t) ∗ owns (c : Thread nD τ) (ms0_20 t) fullShare ((dats m 0 c).after 20 t))

set_option maxHeartbeats 33600000 in
/-- The body at any point: the inputs' buffers hold their blocks, the point is of one of the three kinds, and that kind's
    run applies to the carried buffers at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20,
    show (dats m 0 c).Φ t.succ = Between c (held m c t.val t.isLt).2 from rfl]
  have hN : t.val < 16 := lt_of_lt_of_eq t.isLt (show cfg0.N = 16 from N_0)
  by_cases h0 : t.val % 16 = 0
  · have h1 : t.val % 4 = 0 := by omega
    have hz : t.val = 0 := by omega
    rw [Inv_castSucc m c t, show Inv m c t.val _ = Pipeline.ΦA spec0 c from by simp only [hz]; rfl, PhiA0_eq]
    rw [held_A m c t h0 h1]
    unfold pointA Between outA soutA_0 soutA_1 soutA_2 soutA_3 soutA_4 soutA_5 soutA_6 soutA_7 soutA_8
    dsimp only
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((atA m c t h0 h1).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, H12, H13, H14, H15, H16, H17, H18, H19, ⟨%e20, H20⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩⟩
    isplitl [HS0 HS1 HS2 HS3 HS4 HS5 HS6 HS7 HS8 Hg]
    · isplitl [HS0 HS1 HS2 HS3 HS4 HS5 HS6 HS7 HS8]
      · isplitl [HS0]
        · unfold owns; iexists _; isplitr; swap; · iexact HS0
          ipureintro; exact View.read_writes_of_cover _ _ _ _ _ (coverA_0 m c t h0 h1)
        isplitl [HS1]
        · unfold owns; iexists _; isplitr; swap; · iexact HS1
          ipureintro; exact View.read_writes_of_cover _ _ _ _ _ (coverA_1 m c t h0 h1)
        isplitl [HS2]
        · unfold owns; iexists _; isplitr; swap; · iexact HS2
          ipureintro; exact View.read_writes_of_cover _ _ _ _ _ (coverA_2 m c t h0 h1)
        isplitl [HS3]
        · unfold owns; iexists _; isplitr; swap; · iexact HS3
          ipureintro; exact View.read_writes_of_cover _ _ _ _ _ (coverA_3 m c t h0 h1)
        isplitl [HS4]
        · unfold owns; iexists _; isplitr; swap; · iexact HS4
          ipureintro; exact View.read_writes_of_cover _ _ _ _ _ (coverA_4 m c t h0 h1)
        isplitl [HS5]
        · unfold owns; iexists _; isplitr; swap; · iexact HS5
          ipureintro; exact View.read_writes_of_cover _ _ _ _ _ (coverA_5 m c t h0 h1)
        isplitl [HS6]
        · unfold owns; iexists _; isplitr; swap; · iexact HS6
          ipureintro; exact View.read_writes_of_cover _ _ _ _ _ (coverA_6 m c t h0 h1)
        isplitl [HS7]
        · unfold owns; iexists _; isplitr; swap; · iexact HS7
          ipureintro; exact View.read_writes_of_cover _ _ _ _ _ (coverA_7 m c t h0 h1)
        unfold owns; iexists _; isplitr; swap; · iexact HS8
        ipureintro; exact View.read_writes_of_cover _ _ _ _ _ (coverA_8 m c t h0 h1)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    unfold owns; iexists _; isplitr; swap; · iexact H20
    ipureintro; exact View.read_writes_of_cover _ _ _ _ _ (coverA m c t h0 h1)
  · have hz : t.val ≠ 0 := fun h => h0 (by rw [h])
    by_cases h1 : t.val % 4 = 0
    · rw [Inv_castSucc m c t, Inv_pos m c _ _ hz]
      rw [held_C m c t h0 h1]
      generalize (held m c (t.val - 1) (lt_of_le_of_lt (Nat.sub_le _ _) t.isLt)).2 = p
      unfold pointC Between outC soutC_5 soutC_6 soutC_7 soutC_8
      dsimp only
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((atC m c t h0 h1 p).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexists _; iexact H20
      isplitl [HS0]; · iexact HS0
      isplitl [HS1]; · iexact HS1
      isplitl [HS2]; · iexact HS2
      isplitl [HS3]; · iexact HS3
      isplitl [HS4]; · iexact HS4
      isplitl [HS5]; · iexists _; iexact HS5
      isplitl [HS6]; · iexists _; iexact HS6
      isplitl [HS7]; · iexists _; iexact HS7
      isplitl [HS8]; · iexists _; iexact HS8
      iintro ⟨H0, H1, H2, H3, H4, H5, H6, H7, H8, H9, H10, H11, H12, H13, H14, H15, H16, H17, H18, H19, ⟨%e20, H20⟩, HS0, HS1, HS2, HS3, HS4, ⟨%es5, HS5⟩, ⟨%es6, HS6⟩, ⟨%es7, HS7⟩, ⟨%es8, HS8⟩⟩
      isplitl [HS0 HS1 HS2 HS3 HS4 HS5 HS6 HS7 HS8 Hg]
      · isplitl [HS0 HS1 HS2 HS3 HS4 HS5 HS6 HS7 HS8]
        · isplitl [HS0]
          · iexact HS0
          isplitl [HS1]
          · iexact HS1
          isplitl [HS2]
          · iexact HS2
          isplitl [HS3]
          · iexact HS3
          isplitl [HS4]
          · iexact HS4
          isplitl [HS5]
          · unfold owns; iexists _; isplitr; swap; · iexact HS5
            ipureintro; exact View.read_writes_of_cover _ _ _ _ _ (coverC_5 m c t h0 h1 p)
          isplitl [HS6]
          · unfold owns; iexists _; isplitr; swap; · iexact HS6
            ipureintro; exact View.read_writes_of_cover _ _ _ _ _ (coverC_6 m c t h0 h1 p)
          isplitl [HS7]
          · unfold owns; iexists _; isplitr; swap; · iexact HS7
            ipureintro; exact View.read_writes_of_cover _ _ _ _ _ (coverC_7 m c t h0 h1 p)
          unfold owns; iexists _; isplitr; swap; · iexact HS8
          ipureintro; exact View.read_writes_of_cover _ _ _ _ _ (coverC_8 m c t h0 h1 p)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      unfold owns; iexists _; isplitr; swap; · iexact H20
      ipureintro; exact View.read_writes_of_cover _ _ _ _ _ (coverC m c t h0 h1 p)
    · rw [Inv_castSucc m c t, Inv_pos m c _ _ hz]
      rw [held_B m c t h0 h1]
      generalize (held m c (t.val - 1) (lt_of_le_of_lt (Nat.sub_le _ _) t.isLt)).2 = p
      unfold pointB Between outB
      dsimp only
      iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((atB m c t h0 h1 p).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexists _; iexact H20
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, H9, H10, H11, H12, H13, H14, H15, H16, H17, H18, H19, ⟨%e20, H20⟩, HS0, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]
          · iexact HS0
          isplitl [HS1]
          · iexact HS1
          isplitl [HS2]
          · iexact HS2
          isplitl [HS3]
          · iexact HS3
          isplitl [HS4]
          · iexact HS4
          isplitl [HS5]
          · iexact HS5
          isplitl [HS6]
          · iexact HS6
          isplitl [HS7]
          · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      unfold owns; iexists _; isplitr; swap; · iexact H20
      ipureintro; exact View.read_writes_of_cover _ _ _ _ _ (coverB m c t h0 h1 p)

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the carried buffers' contents are forgotten. -/
theorem hout (c : Dev nD) : (dats m 0 c).Φ (Fin.last cfg0.N) ⊢ Pipeline.ΦA spec0 c := by
  rw [show (dats m 0 c).Φ (Fin.last cfg0.N) = Inv m c cfg0.N le_rfl from rfl,
    Inv_pos m c _ _ (by rw [show cfg0.N = 16 from N_0]; decide), PhiA0_eq]
  unfold Between
  iintro ⟨⟨HS0, HS1, HS2, HS3, HS4, HS5, HS6, HS7, HS8⟩, Hg⟩
  isplitl [HS0 HS1 HS2 HS3 HS4 HS5 HS6 HS7 HS8]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8
  iexact Hg

set_option backward.isDefEq.respectTransparency.types false in
/-- The launch: every array of the pipeline ends at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every argument array of core `c` is as launched. -/
def Kept (r : PUnit × MemSt nD τ sig (Elt F)) (c : Dev nD) : Prop :=
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)

/-- The argument arrays end unchanged. -/
theorem unchanged : θ_run defs (onTc (τ := τ) (main (F := F))) ⟨m, fun _ => 0, ρ⟩ (fun r => ∀ c : Dev nD, Kept m r c) :=
  frame_of m ρ (dats m) (A_eq m) (run_main m ρ)

/-- The frame: the arguments end unchanged and every counter is zero. -/
theorem frame : θ_run defs (onTc (τ := τ) (main (F := F))) ⟨m, fun _ => 0, ρ⟩
    (fun r => (∀ c : Dev nD, Kept m r c) ∧ r.2.sem = fun _ => 0) :=
  θ_run_and (unchanged m ρ) ((θ_run defs _ _).mono (fun _ h => h.2) (run_main_quiescent m ρ))

/-! ## The output array -/

/-- Row `i` of the output is written back by point `i / 64`, at row `i % 64` of its block. -/
abbrev locOf (i : S1024x32769.Idx) : S64x32769.Idx := fun a => match a with
  | ⟨0, _⟩ => ⟨(i 0).val % 64, Nat.mod_lt _ (by decide)⟩
  | ⟨1, _⟩ => ⟨(i 1).val, (i 1).isLt⟩

/-- The point that writes row `i` back. -/
theorem point_lt (i : S1024x32769.Idx) : (i 0).val / 64 < cfg0.N := by
  have h : (i 0).val < 1024 := (i 0).isLt
  rw [show cfg0.N = 16 from N_0]; omega

/-- The output array after the run. -/
def final (c : Dev nD) : Buf (Elt F) ((c : Thread nD τ).loc main_v0) := fun i =>
  (held m c ((i 0).val / 64) (point_lt i)).1 (locOf i)

/-- The window's block index at each point. -/
theorem idx_facts : ∀ t : Fin cfg0.N, win0_20.index t (0 : Fin 2) = t.val ∧ win0_20.index t (1 : Fin 2) = 0 :=
  (by decide +kernel : ∀ t : Fin grid0.N, _)

/-- Every point writes its block back. -/
theorem flush_all : ∀ t : Fin cfg0.N, (cfg0.win 20).flush t = true :=
  (by decide +kernel : ∀ t : Fin grid0.N, win0_20.flush t = true)

/-- What a point writes back is its block of `final`. -/
theorem flushed_eq (c : Dev nD) (t : Fin cfg0.N) :
    (dats m 0 c).flushed 20 t = ((cfg0.win 20).blk t).view.read (Elt F) (final m c) := by
  show (cfg0.win 20).cut (grid0.coords t) ((dats m 0 c).after 20 t) = _
  rw [after_20]
  obtain ⟨e0, e1⟩ := idx_facts t
  funext y
  have hy0 : (y 0).val < 64 := (y 0).isLt
  have hy1 : (y 1).val < 32769 := (y 1).isLt
  have hb0 : (((cfg0.win 20).blk t).view.emb y 0).val = win0_20.index t (0 : Fin 2) * 64 + 1 * (y 0).val := rfl
  have hb1 : (((cfg0.win 20).blk t).view.emb y 1).val = win0_20.index t (1 : Fin 2) * 32769 + 1 * (y 1).val := rfl
  have hr : (((cfg0.win 20).blk t).view.emb y 0).val / 64 = t.val := by
    rw [hb0, e0]; omega
  have hl : locOf (((cfg0.win 20).blk t).view.emb y) = (cfg0.win 20).xinj (grid0.coords t) y := by
    funext a; apply Fin.ext
    match a with
    | ⟨0, _⟩ => show (((cfg0.win 20).blk t).view.emb y 0).val % 64 = (y 0).val; rw [hb0]; omega
    | ⟨1, _⟩ => show (((cfg0.win 20).blk t).view.emb y 1).val = (y 1).val; rw [hb1]; omega
  have hh : ∀ (a b : ℕ) (ha : a < cfg0.N) (hb : b < cfg0.N), a = b → held m c a ha = held m c b hb := by
    intro a b ha hb e; subst e; rfl
  show (held m c t.val t.isLt).1 ((cfg0.win 20).xinj (grid0.coords t) y)
    = (held m c ((((cfg0.win 20).blk t).view.emb y 0).val / 64) _).1 (locOf (((cfg0.win 20).blk t).view.emb y))
  rw [hl, hh _ _ _ t.isLt hr]

/-- Every entry of the output array lies in the block of its point. -/
theorem covered (i : S1024x32769.Idx) (h : (i 0).val / 64 < cfg0.N) : i ∈ ((cfg0.win 20).blk ⟨(i 0).val / 64, h⟩).view.set := by
  have hi0 : (i 0).val < 1024 := (i 0).isLt
  have hi1 : (i 1).val < 32769 := (i 1).isLt
  obtain ⟨e0, e1⟩ := idx_facts ⟨(i 0).val / 64, h⟩
  show i ∈ ((View.whole main_v0).slice (win0_20.rect ⟨(i 0).val / 64, h⟩)).set
  rw [View.set_slice_whole, Rect.mem_set_unit]
  intro a
  match a with
  | ⟨0, _⟩ =>
    show win0_20.index ⟨(i 0).val / 64, h⟩ (0 : Fin 2) * 64 ≤ (i 0).val ∧ (i 0).val < win0_20.index ⟨(i 0).val / 64, h⟩ (0 : Fin 2) * 64 + 64
    rw [e0]; dsimp only; omega
  | ⟨1, _⟩ =>
    show win0_20.index ⟨(i 0).val / 64, h⟩ (1 : Fin 2) * 32769 ≤ (i 1).val ∧ (i 1).val < win0_20.index ⟨(i 0).val / 64, h⟩ (1 : Fin 2) * 32769 + 32769
    rw [e1]; omega

/-- The output array after the run is `final`: the points' blocks tile it. -/
theorem final_eq (c : Dev nD) : (dats m 0 c).arrAt 20 cfg0.N = final m c :=
  (dats m 0 c).arrAt_eq_of_cover 20 _ (fun t _ => flushed_eq m c t) fun i =>
    ⟨⟨(i 0).val / 64, point_lt i⟩, flush_all _, covered i (point_lt i)⟩

/-- The run with the output read: the output array at `final`, the arguments unchanged. -/
theorem run_value : θ_run defs (onTc (τ := τ) (main (F := F))) ⟨m, fun _ => 0, ρ⟩ fun r => ∀ c : Dev nD,
      r.2.mem ((c : Thread nD τ).loc main_v0) = final m c ∧ Kept m r c :=
  (θ_run defs _ _).mono (fun r h c => ⟨((h.1 c).1 20).trans (final_eq m c), h.2 c⟩)
    (θ_run_and (run_main m ρ) (unchanged m ρ))

end Cert.KernelIdeal.Whole

end
-- ==== Proof.KRows.lean ====
/- The kernel's payloads of the head (norm, coarse layers, picks, embedding, fine layers), read at an entry: each is the
   row function of Rows applied to the row. -/
module

public import proofs.«01_k».proof.Proof.Picks
public import proofs.«01_k».proof.Proof.Gen.KernelIdeal.Skeleton

@[expose] public section

set_option maxRecDepth 16384

noncomputable section

namespace Cert.KernelIdeal.Reads

open Cert.KernelIdeal Cert.KernelIdeal.Gen Idealize.ShloMosaic Idealize.ShloMosaic.TcCoe Cert.Rows

/-- The normalised rows. -/
theorem norm_read (x : Vec Ideal S256x1024 .f32) (g b : Vec Ideal S1024 .f32) (r : Fin 256) (j : Fin 1024) :
    k0_pay4 x g b (ix2 r j) = norm (fun k => x (ix2 r k)) (fun k => g (ix1 k)) (fun k => b (ix1 k)) j := by
  pointwise [k0_pay4]
  rfl

/-- The no-op column. -/
theorem noop_read (x : Vec Ideal S256x1024 .f32) (g b : Vec Ideal S1024 .f32) (W : Vec Ideal S1024x1 .f32) (c : Vec Ideal S1 .f32) (r : Fin 256) :
    k0_pay5 x g b W c (ix2 r 0) = dense (fun k j => W (ix2 k j)) (fun j => c (ix1 j))
      (norm (fun k => x (ix2 r k)) (fun k => g (ix1 k)) (fun k => b (ix1 k))) (0 : Fin 1) := by
  pointwise [k0_pay5]
  simp only [norm_read]
  rfl

/-- The first coarse product. -/
theorem first_read (x : Vec Ideal S256x1024 .f32) (g b : Vec Ideal S1024 .f32) (W : Vec Ideal S1024x1024 .f32) (r : Fin 256) (j : Fin 1024) :
    k0_pay6 x g b W (ix2 r j) = ∑ k, norm (fun k => x (ix2 r k)) (fun k => g (ix1 k)) (fun k => b (ix1 k)) k * W (ix2 k j) := by
  pointwise [k0_pay6]
  simp only [norm_read]

/-- The coarse scores. -/
theorem coarse_read (x : Vec Ideal S256x1024 .f32) (g b : Vec Ideal S1024 .f32) (W1 : Vec Ideal S1024x1024 .f32)
    (b1 : Vec Ideal S1024 .f32) (W2 : Vec Ideal S1024x1024 .f32) (b2 : Vec Ideal S1024 .f32)
    (W3 : Vec Ideal S1024x256 .f32) (b3 : Vec Ideal S256 .f32) (r : Fin 256) (n : Fin 256) :
    k0_pay8 (k0_pay6 x g b W1) (k0_pay7 b1) W2 b2 W3 b3 (ix2 r n) =
      scores (norm (fun k => x (ix2 r k)) (fun k => g (ix1 k)) (fun k => b (ix1 k))) (fun k j => W1 (ix2 k j)) (fun j => b1 (ix1 j))
        (fun k j => W2 (ix2 k j)) (fun j => b2 (ix1 j)) (fun k j => W3 (ix2 k j)) (fun j => b3 (ix1 j)) n := by
  pointwise [k0_pay8, k0_pay7]
  simp only [first_read]
  rfl

/-- The places of a row, along every row. -/
abbrev places : IVec S256x256 32 := iota .tc S256x256 32 [1] iota_S256x256_d1_w32

/-- A select on "this is the place" is a strike. -/
theorem strike_of_select (v : Fin 256 → EReal) (i : BitVec 32) (n : Fin 256) :
    Scalar.select (IntOp.cmpi CmpIPredicate.eq (BitVec.ofNat 32 n.val) i) (Ideal.ofBits .f32 0xFF800000#32) (v n) = strike v i n := by
  unfold strike
  by_cases h : BitVec.ofNat 32 n.val = i
  · simp [Scalar.select, IntOp.cmpi, h]
  · simp [Scalar.select, IntOp.cmpi, beq_eq_false_iff_ne.2 h, h]

/-- Round 0's pick. -/
theorem pick0_read (a : FVec Ideal S256x1024 .f32) (b1 : FVec Ideal S1x1024 .f32) (W2 : Vec Ideal S1024x1024 .f32) (b2 : Vec Ideal S1024 .f32)
    (W3 : Vec Ideal S1024x256 .f32) (b3 : Vec Ideal S256 .f32) (r : Fin 256) :
    k0_pay11 (k0_pay10 a b1 W2 b2 W3 b3) (ix2 r 0) = pick (fun n => k0_pay8 a b1 W2 b2 W3 b3 (ix2 r n)) 0 := by
  pointwise [k0_pay11, k0_pay10]
  rfl

/-- The scores with round 0's pick struck out. -/
theorem strike0_read (v : FVec Ideal S256x256 .f32) (c : IVec S256x256 32) (r n : Fin 256) :
    k0_pay13 v places c (ix2 r n) = strike (fun n => v (ix2 r n)) (k0_pay11 c (ix2 r 0)) n := by
  pointwise [k0_pay13]
  exact strike_of_select (fun n => v (ix2 r n)) _ n

/-- Round 1's pick. -/
theorem pick1_read (v : FVec Ideal S256x256 .f32) (c : IVec S256x256 32) (r : Fin 256) :
    k0_pay14 v places c (ix2 r 0) = firstMax fun n => k0_pay13 v places c (ix2 r n) := by
  pointwise [k0_pay14]
  rfl

/-- The scores with round 1's pick struck out. -/
theorem strike1_read (v : FVec Ideal S256x256 .f32) (c : IVec S256x256 32) (r n : Fin 256) :
    k0_pay16 v places c (ix2 r n) = strike (fun n => k0_pay13 v places c (ix2 r n)) (k0_pay14 v places c (ix2 r 0)) n := by
  pointwise [k0_pay16]
  exact strike_of_select (fun n => k0_pay13 v places c (ix2 r n)) _ n

/-- Round 2's pick. -/
theorem pick2_read (v : FVec Ideal S256x256 .f32) (c : IVec S256x256 32) (r : Fin 256) :
    k0_pay17 v places c (ix2 r 0) = firstMax fun n => k0_pay16 v places c (ix2 r n) := by
  pointwise [k0_pay17]
  rfl

/-- The scores with round 2's pick struck out. -/
theorem strike2_read (v : FVec Ideal S256x256 .f32) (c : IVec S256x256 32) (r n : Fin 256) :
    k0_pay19 v places c (ix2 r n) = strike (fun n => k0_pay16 v places c (ix2 r n)) (k0_pay17 v places c (ix2 r 0)) n := by
  pointwise [k0_pay19]
  exact strike_of_select (fun n => k0_pay16 v places c (ix2 r n)) _ n

/-- Round 3's pick. -/
theorem pick3_read (v : FVec Ideal S256x256 .f32) (c : IVec S256x256 32) (r : Fin 256) :
    k0_pay21 places (k0_pay19 v places c) (k0_pay20 v places c) (ix2 r 0) = firstMax fun n => k0_pay19 v places c (ix2 r n) := by
  pointwise [k0_pay21, k0_pay20]
  rfl

/-- The updates of one round, from the picks of the round. -/
abbrev updates (t : FVec Ideal S256x1024 .f32) (i : IVec S256x1 32) (e : Vec Ideal S256x1024 .bf16) (g2 b2 : Vec Ideal S1024 .f32)
    (w1b : Vec Ideal S1024x1024 .bf16) (fb1 : Vec Ideal S1024 .f32) (w2 : Vec Ideal S1024x1024 .bf16) (fb2 : Vec Ideal S1024 .f32)
    (w3 : Vec Ideal S1024x128 .bf16) (fb3 : Vec Ideal S128 .f32) : FVec Ideal S256x128 .f32 :=
  k0_pay26 (k0_pay25 t b2 (k0_pay24 places i e g2) w1b fb1 w2 fb2 w3 fb3)

/-- The one-hot product picks a row of the embedding. -/
theorem oneHot_sum (i : BitVec 32) (n0 : Fin 256) (hi : i = BitVec.ofNat 32 n0.val) (f : Fin 256 → EReal) :
    (∑ n : Fin 256, (FloatOps.sitofp (F := Ideal) FTy.f32 (BitVec.setWidth 32 (IntOp.cmpi CmpIPredicate.eq (BitVec.ofNat 32 n.val) i)) : EReal) * f n) = f n0 := by
  subst hi
  rw [Finset.sum_eq_single n0 (fun n _ hn => ?_) (fun h => absurd (Finset.mem_univ _) h)]
  · simp [IntOp.cmpi, FloatOps.sitofp]

  · have : BitVec.ofNat 32 n.val ≠ BitVec.ofNat 32 n0.val := fun h => hn (ofNat_inj h)
    simp [IntOp.cmpi, FloatOps.sitofp, beq_eq_false_iff_ne.2 this]

/-- The scaled embedding rows. -/
theorem scaled_read (i : IVec S256x1 32) (e : Vec Ideal S256x1024 .bf16) (g : Vec Ideal S1024 .f32) (r n0 : Fin 256)
    (hi : i (ix2 r 0) = BitVec.ofNat 32 n0.val) (j : Fin 1024) :
    k0_pay24 places i e g (ix2 r j) = scaled (fun k => e (ix2 n0 k)) (fun k => g (ix1 k)) j := by
  pointwise [k0_pay24]
  simp only [hi, oneHot_sum _ n0 rfl]
  rfl

/-- The fine scores. -/
theorem fine_read (t : FVec Ideal S256x1024 .f32) (b2 : Vec Ideal S1024 .f32) (x : FVec Ideal S256x1024 .f32) (w1b : Vec Ideal S1024x1024 .bf16)
    (fb1 : Vec Ideal S1024 .f32) (w2 : Vec Ideal S1024x1024 .bf16) (fb2 : Vec Ideal S1024 .f32)
    (w3 : Vec Ideal S1024x128 .bf16) (fb3 : Vec Ideal S128 .f32) (r : Fin 256) (j : Fin 128) :
    k0_pay25 t b2 x w1b fb1 w2 fb2 w3 fb3 (ix2 r j) =
      fine (fun k => t (ix2 r k)) (fun l => x (ix2 r l) + b2 (ix1 l)) (fun k j => w1b (ix2 k j)) (fun j => fb1 (ix1 j))
        (fun k j => w2 (ix2 k j)) (fun j => fb2 (ix1 j)) (fun k j => w3 (ix2 k j)) (fun j => fb3 (ix1 j)) j := by
  pointwise [k0_pay25]
  rfl

/-- The updates from the fine scores. -/
theorem upd_read (f : FVec Ideal S256x128 .f32) (r : Fin 256) (j : Fin 128) :
    k0_pay26 f (ix2 r j) = update (fun k => f (ix2 r k)) j := by
  pointwise [k0_pay26]
  rfl

/-- The first fine product over the normalised rows. -/
theorem t_read (x : Vec Ideal S256x1024 .f32) (g b : Vec Ideal S1024 .f32) (w : Vec Ideal S1024x1024 .bf16) (r : Fin 256) (j : Fin 1024) :
    k0_pay23 (k0_pay4 x g b) w (ix2 r j) = ∑ k, norm (fun k => x (ix2 r k)) (fun k => g (ix1 k)) (fun k => b (ix1 k)) k * w (ix2 k j) := by
  pointwise [k0_pay23]
  simp only [norm_read]

end Cert.KernelIdeal.Reads

end
-- ==== Proof.Blocks.lean ====
/- What a row block's kernel computation leaves, read at an entry: the no-op column, the scores, the four picked places and
   the four updates of each row, as the row functions of the weights. -/
module

public import proofs.«01_k».proof.Proof.KRows
public import proofs.«01_k».proof.Proof.Spec
public import Idealize.ShloMosaic.Lib.Pipeline.ValueKit

@[expose] public section

set_option maxRecDepth 16384

noncomputable section

namespace Cert.KernelIdeal.Reads

open Cert.KernelIdeal Cert.KernelIdeal.Gen Idealize.ShloMosaic Idealize.ShloMosaic.TcCoe Idealize.ShloMosaic.Tactic Cert.Rows

/-- The `k`-th of four. -/
def four {α : Type} (p0 p1 p2 p3 : α) : Fin 4 → α
  | ⟨0, _⟩ => p0
  | ⟨1, _⟩ => p1
  | ⟨2, _⟩ => p2
  | ⟨3, _⟩ => p3

/-- A statement of each of four holds of the `k`-th. -/
theorem four_all {α : Type} {p0 p1 p2 p3 : α} (P : Fin 4 → α → Prop) (h0 : P 0 p0) (h1 : P 1 p1) (h2 : P 2 p2) (h3 : P 3 p3) (k : Fin 4) :
    P k (four p0 p1 p2 p3 k) := by
  match k with
  | ⟨0, _⟩ => exact h0
  | ⟨1, _⟩ => exact h1
  | ⟨2, _⟩ => exact h2
  | ⟨3, _⟩ => exact h3

/-- Four columns stored side by side. -/
theorem columns_read (p0 p1 p2 p3 : IVec S256x1 32) (r : Fin 256) (k : Fin 4) :
    View.canon (Val := Elt Ideal) (s := S256x4) (e := .i32)
      [⟨Rect.unit ![0, 3] ![256, 1] inb_S256x4_S256x1_0_3, p3⟩, ⟨Rect.unit ![0, 2] ![256, 1] inb_S256x4_S256x1_0_2, p2⟩,
        ⟨Rect.unit ![0, 1] ![256, 1] inb_S256x4_S256x1_0_1, p1⟩, ⟨Rect.unit ![0, 0] ![256, 1] inb_S256x4_S256x1_0_0, p0⟩] (ix2 r k)
      = four p0 p1 p2 p3 k (ix2 r 0) := by
  have hk : ∀ (x : S256x1.Idx), r.val = (x 0).val → x = ix2 r 0 := fun x h => by
    funext a
    match a with
    | ⟨0, _⟩ => exact Fin.ext h.symm
    | ⟨1, _⟩ => exact Fin.ext (by have : (x 1).val < 1 := (x 1).isLt; show (x 1).val = 0; omega)
  have he : ∀ (x : S256x1.Idx) (j : Fin 4), r.val = (x 0).val → k.val = j.val + (x 1).val → x = ix2 r 0 ∧ k = j := fun x j h e =>
    ⟨hk x h, Fin.ext (by have : (x 1).val < 1 := (x 1).isLt; omega)⟩
  canon_tiles x h
  · obtain ⟨rfl, rfl⟩ := he x 3 h0 h1; rfl
  · obtain ⟨rfl, rfl⟩ := he x 2 h0 h1; rfl
  · obtain ⟨rfl, rfl⟩ := he x 1 h0 h1; rfl
  · obtain ⟨rfl, rfl⟩ := he x 0 h0 (h1.trans (Nat.zero_add _).symm); rfl

/-- Four blocks of 128 columns stored side by side. -/
theorem widths_read (p0 p1 p2 p3 : FVec Ideal S256x128 .f32) (r : Fin 256) (k : Fin 4) (f : Fin 128) :
    View.canon (Val := Elt Ideal) (s := S256x512) (e := .f32)
      [⟨Rect.unit ![0, 384] ![256, 128] inb_S256x512_S256x128_0_384, p3⟩, ⟨Rect.unit ![0, 256] ![256, 128] inb_S256x512_S256x128_0_256, p2⟩,
        ⟨Rect.unit ![0, 128] ![256, 128] inb_S256x512_S256x128_0_128, p1⟩, ⟨Rect.unit ![0, 0] ![256, 128] inb_S256x512_S256x128_0_0, p0⟩]
      (ix2 r ⟨128 * k.val + f.val, by omega⟩)
      = four p0 p1 p2 p3 k (ix2 r f) := by
  have he : ∀ (x : S256x128.Idx) (j : Fin 4), r.val = (x 0).val → 128 * k.val + f.val = 128 * j.val + (x 1).val → x = ix2 r f ∧ k = j := fun x j h e => by
    have h1 : (x 1).val < 128 := (x 1).isLt
    refine ⟨funext fun a => ?_, Fin.ext (by omega)⟩
    match a with
    | ⟨0, _⟩ => exact Fin.ext h.symm
    | ⟨1, _⟩ => exact Fin.ext (by show (x 1).val = f.val; omega)
  canon_tiles x h
  · obtain ⟨rfl, rfl⟩ := he x 3 h0 h1; rfl
  · obtain ⟨rfl, rfl⟩ := he x 2 h0 h1; rfl
  · obtain ⟨rfl, rfl⟩ := he x 1 h0 h1; rfl
  · obtain ⟨rfl, rfl⟩ := he x 0 h0 (h1.trans (Nat.zero_add _).symm); rfl

/-- The weights, from the arrays that hold them. -/
abbrev weights (x1 x2 : Vec Ideal S1024 .f32) (x3 : Vec Ideal S1024x1 .f32) (x4 : Vec Ideal S1 .f32) (x5 : Vec Ideal S1024x1024 .f32)
    (x6 : Vec Ideal S1024 .f32) (x7 : Vec Ideal S1024x1024 .f32) (x8 : Vec Ideal S1024 .f32) (x9 : Vec Ideal S1024x256 .f32) (x10 : Vec Ideal S256 .f32)
    (x11 : Vec Ideal S256x1024 .f32) (x12 x13 : Vec Ideal S1024 .f32) (x14 : Vec Ideal S2048x1024 .f32) (x15 : Vec Ideal S1024 .f32)
    (x16 : Vec Ideal S1024x1024 .f32) (x17 : Vec Ideal S1024 .f32) (x18 : Vec Ideal S1024x128 .f32) (x19 : Vec Ideal S128 .f32) : Weights where
  g1 k := x1 (ix1 k)
  b1 k := x2 (ix1 k)
  nW k j := x3 (ix2 k j)
  nb j := x4 (ix1 j)
  cW1 k j := x5 (ix2 k j)
  cb1 j := x6 (ix1 j)
  cW2 k j := x7 (ix2 k j)
  cb2 j := x8 (ix1 j)
  cW3 k j := x9 (ix2 k j)
  cb3 j := x10 (ix1 j)
  emb n j := x11 (ix2 n j)
  g2 k := x12 (ix1 k)
  b2 k := x13 (ix1 k)
  fW1 k j := x14 (ix2 k j)
  fb1 j := x15 (ix1 j)
  fW2 k j := x16 (ix2 k j)
  fb2 j := x17 (ix1 j)
  fW3 k j := x18 (ix2 k j)
  fb3 j := x19 (ix1 j)

section

variable (cs : FVec Ideal S256x256 .f32) (c : IVec S256x256 32) (r : Fin 256) (s : Fin 256 → EReal)
  (hs : (fun n => (cs (ix2 r n) : EReal)) = s) (h0 : k0_pay11 c (ix2 r 0) = pick s 0)

include hs h0

/-- What is left after one round. -/
theorem rest1_read : (fun n => (k0_pay13 cs places c (ix2 r n) : EReal)) = rest s 1 := by
  subst hs
  funext n
  rw [strike0_read, h0]
  rfl

/-- The pick of round 1. -/
theorem word1_read : k0_pay14 cs places c (ix2 r 0) = pick s 1 := by
  rw [pick1_read, rest1_read cs c r s hs h0]
  rfl

/-- What is left after two rounds. -/
theorem rest2_read : (fun n => (k0_pay16 cs places c (ix2 r n) : EReal)) = rest s 2 := by
  funext n
  rw [strike1_read, word1_read cs c r s hs h0, rest1_read cs c r s hs h0]
  rfl

/-- The pick of round 2. -/
theorem word2_read : k0_pay17 cs places c (ix2 r 0) = pick s 2 := by
  rw [pick2_read, rest2_read cs c r s hs h0]
  rfl

/-- What is left after three rounds. -/
theorem rest3_read : (fun n => (k0_pay19 cs places c (ix2 r n) : EReal)) = rest s 3 := by
  funext n
  rw [strike2_read, word2_read cs c r s hs h0, rest2_read cs c r s hs h0]
  rfl

/-- The pick of round 3. -/
theorem word3_read : k0_pay21 places (k0_pay19 cs places c) (k0_pay20 cs places c) (ix2 r 0) = pick s 3 := by
  rw [pick3_read, rest3_read cs c r s hs h0]
  rfl

end

/-- The four columns of picks of a row block. -/
abbrev words (cs : FVec Ideal S256x256 .f32) (c : IVec S256x256 32) : Fin 4 → IVec S256x1 32 :=
  four (k0_pay11 c) (k0_pay14 cs places c) (k0_pay17 cs places c) (k0_pay21 places (k0_pay19 cs places c) (k0_pay20 cs places c))

/-- The picks of a row block are the words of the places. -/
theorem words_read (a : FVec Ideal S256x1024 .f32) (b1 : FVec Ideal S1x1024 .f32) (W2 : Vec Ideal S1024x1024 .f32) (b2 : Vec Ideal S1024 .f32)
    (W3 : Vec Ideal S1024x256 .f32) (b3 : Vec Ideal S256 .f32) (r : Fin 256) (s : Fin 256 → EReal)
    (hs : (fun n => (k0_pay8 a b1 W2 b2 W3 b3 (ix2 r n) : EReal)) = s) (k : Fin 4) :
    words (k0_pay8 a b1 W2 b2 W3 b3) (k0_pay10 a b1 W2 b2 W3 b3) k (ix2 r 0) = BitVec.ofNat 32 (place s k.val).val := by
  have h0 : k0_pay11 (k0_pay10 a b1 W2 b2 W3 b3) (ix2 r 0) = pick s 0 := by rw [pick0_read, hs]
  rw [← pick_eq]
  exact four_all (fun k (p : IVec S256x1 32) => p (ix2 r 0) = pick s k.val) h0 (word1_read _ _ r s hs h0) (word2_read _ _ r s hs h0)
    (word3_read _ _ r s hs h0) k

/-- The stored picks of a row block. -/
theorem stored_picks (cs : FVec Ideal S256x256 .f32) (c : IVec S256x256 32) (r : Fin 256) (k : Fin 4) :
    View.canon (Val := Elt Ideal) (s := S256x4) (e := .i32)
      [⟨Rect.unit ![0, 3] ![256, 1] inb_S256x4_S256x1_0_3, k0_pay22 places (k0_pay19 cs places c) (k0_pay20 cs places c)⟩,
        ⟨Rect.unit ![0, 2] ![256, 1] inb_S256x4_S256x1_0_2, k0_pay18 cs places c⟩,
        ⟨Rect.unit ![0, 1] ![256, 1] inb_S256x4_S256x1_0_1, k0_pay15 cs places c⟩,
        ⟨Rect.unit ![0, 0] ![256, 1] inb_S256x4_S256x1_0_0, k0_pay12 c⟩] (ix2 r k) = words cs c k (ix2 r 0) := by
  rw [columns_read]
  have e0 : k0_pay12 c (ix2 r 0) = k0_pay11 c (ix2 r 0) := by pointwise [k0_pay12]
  have e1 : k0_pay15 cs places c (ix2 r 0) = k0_pay14 cs places c (ix2 r 0) := by pointwise [k0_pay15]
  have e2 : k0_pay18 cs places c (ix2 r 0) = k0_pay17 cs places c (ix2 r 0) := by pointwise [k0_pay18]
  have e3 : k0_pay22 places (k0_pay19 cs places c) (k0_pay20 cs places c) (ix2 r 0)
      = k0_pay21 places (k0_pay19 cs places c) (k0_pay20 cs places c) (ix2 r 0) := by pointwise [k0_pay22]
  match k with
  | ⟨0, _⟩ => unfold words; unfold four; exact e0
  | ⟨1, _⟩ => unfold words; unfold four; exact e1
  | ⟨2, _⟩ => unfold words; unfold four; exact e2
  | ⟨3, _⟩ => unfold words; unfold four; exact e3

/-- The stored updates of a row block. -/
theorem stored_updates (t : FVec Ideal S256x1024 .f32) (cs : FVec Ideal S256x256 .f32) (c : IVec S256x256 32) (e : Vec Ideal S256x1024 .bf16)
    (g2 b2 : Vec Ideal S1024 .f32) (w1b : Vec Ideal S1024x1024 .bf16) (fb1 : Vec Ideal S1024 .f32) (w2 : Vec Ideal S1024x1024 .bf16)
    (fb2 : Vec Ideal S1024 .f32) (w3 : Vec Ideal S1024x128 .bf16) (fb3 : Vec Ideal S128 .f32) (r : Fin 256) (k : Fin 4) (f : Fin 128) :
    View.canon (Val := Elt Ideal) (s := S256x512) (e := .f32)
      [⟨Rect.unit ![0, 384] ![256, 128] inb_S256x512_S256x128_0_384,
          k0_pay44 (k0_pay37 t g2 b2 (k0_pay36 places (k0_pay21 places (k0_pay19 cs places c) (k0_pay20 cs places c)) e) w1b fb1 w2 fb2 w3) (k0_pay38 fb3)⟩,
        ⟨Rect.unit ![0, 256] ![256, 128] inb_S256x512_S256x128_0_256,
          k0_pay35 (k0_pay33 t b2 (k0_pay31 places (k0_pay17 cs places c) e) (k0_pay32 g2) w1b fb1 w2 fb2 w3) (k0_pay34 fb3)⟩,
        ⟨Rect.unit ![0, 128] ![256, 128] inb_S256x512_S256x128_0_128,
          k0_pay30 (k0_pay29 t b2 (k0_pay27 places (k0_pay14 cs places c) e) (k0_pay28 g2) w1b fb1 w2 fb2 w3 fb3)⟩,
        ⟨Rect.unit ![0, 0] ![256, 128] inb_S256x512_S256x128_0_0,
          k0_pay26 (k0_pay25 t b2 (k0_pay24 places (k0_pay11 c) e g2) w1b fb1 w2 fb2 w3 fb3)⟩]
      (ix2 r ⟨128 * k.val + f.val, by omega⟩) = updates t (words cs c k) e g2 b2 w1b fb1 w2 fb2 w3 fb3 (ix2 r f) := by
  rw [widths_read]
  refine congrFun ?_ (ix2 r f)
  match k with
  | ⟨0, _⟩ => unfold words; unfold four; rfl
  | ⟨1, _⟩ => unfold words; unfold four; rfl
  | ⟨2, _⟩ => unfold words; unfold four; rfl
  | ⟨3, _⟩ => unfold words; unfold four; rfl

/-- A round's updates of a row, from the place picked and the stored weights. -/
theorem updates_read (w : Weights) (x : Vec Ideal S256x1024 .f32) (g1 b1 : Vec Ideal S1024 .f32) (w1a : Vec Ideal S1024x1024 .bf16) (i : IVec S256x1 32)
    (e : Vec Ideal S256x1024 .bf16) (g2 b2 : Vec Ideal S1024 .f32) (w1b : Vec Ideal S1024x1024 .bf16) (fb1 : Vec Ideal S1024 .f32)
    (w2 : Vec Ideal S1024x1024 .bf16) (fb2 : Vec Ideal S1024 .f32) (w3 : Vec Ideal S1024x128 .bf16) (fb3 : Vec Ideal S128 .f32) (r n : Fin 256) (f : Fin 128)
    (hg1 : w.g1 = fun k => g1 (ix1 k)) (hb1 : w.b1 = fun k => b1 (ix1 k)) (hg2 : w.g2 = fun k => g2 (ix1 k)) (hb2 : w.b2 = fun k => b2 (ix1 k))
    (hfb1 : w.fb1 = fun k => fb1 (ix1 k)) (hfb2 : w.fb2 = fun k => fb2 (ix1 k)) (hfb3 : w.fb3 = fun k => fb3 (ix1 k))
    (ha : ∀ k j, (w1a (ix2 k j) : EReal) = w.fW1 (lower k) j) (hb : ∀ k j, (w1b (ix2 k j) : EReal) = w.fW1 (upper k) j)
    (he : ∀ n j, (e (ix2 n j) : EReal) = w.emb n j) (h2 : ∀ k j, (w2 (ix2 k j) : EReal) = w.fW2 k j) (h3 : ∀ k j, (w3 (ix2 k j) : EReal) = w.fW3 k j)
    (hi : i (ix2 r 0) = BitVec.ofNat 32 n.val) :
    updates (k0_pay23 (k0_pay4 x g1 b1) w1a) i e g2 b2 w1b fb1 w2 fb2 w3 fb3 (ix2 r f) = update (w.fineAt (fun k => x (ix2 r k)) n) f := by
  refine (upd_read _ r f).trans (congrFun (congrArg update (funext fun f => ?_)) f)
  rw [fine_read]
  unfold Weights.fineAt Weights.rows Cert.Rows.norm
  simp only [t_read, scaled_read i e g2 r n hi, ha, hb, he, h2, h3, hg1, hb1, hg2, hb2, hfb1, hfb2, hfb3]
  rfl

end Cert.KernelIdeal.Reads

end
-- ==== Proof.Tail.lean ====
/- The kernel's payloads that expand 64 rows of the block in hand into the output block, read at an entry: the masks of 0
   and 1, the four updates spread by one of them, the picked places stacked as 0 and 1, the 16 segments of a row, and the
   whole row. -/
module

public import proofs.«01_k».proof.Proof.Spec
public import proofs.«01_k».proof.Proof.Gen.KernelIdeal.Skeleton
public import Idealize.ShloMosaic.Lib.Pipeline.Value

@[expose] public section

set_option maxRecDepth 16384

noncomputable section

namespace Cert.KernelIdeal.Reads

open Cert.KernelIdeal Cert.KernelIdeal.Gen Idealize.ShloMosaic Idealize.ShloMosaic.TcCoe Cert.Rows

/-- A division by 16 as the kernel writes it, on a column number. -/
theorem div16_word : ∀ mm : Fin 2048, Scalar.select
    (IntOp.andi
      (IntOp.cmpi CmpIPredicate.ne
        (IntOp.subi (BitVec.setWidth 32 (IntOp.cmpi CmpIPredicate.sgt (BitVec.ofNat 32 mm.val) 0#32))
          (BitVec.setWidth 32 (IntOp.cmpi CmpIPredicate.slt (BitVec.ofNat 32 mm.val) 0#32)))
        (Scalar.subi (Scalar.extui (Scalar.cmpi CmpIPredicate.sgt 16#32 0#32))
          (Scalar.extui (Scalar.cmpi CmpIPredicate.slt 16#32 0#32))))
      (IntOp.cmpi CmpIPredicate.ne (IntOp.remsi ArithUnit.vector (BitVec.ofNat 32 mm.val) 16#32) 0#32))
    (IntOp.subi (IntOp.divsi ArithUnit.vector (BitVec.ofNat 32 mm.val) 16#32) 1#32)
    (IntOp.divsi ArithUnit.vector (BitVec.ofNat 32 mm.val) 16#32) = BitVec.ofNat 32 (mm.val / 16) := by
  decide +kernel

/-- A division by 256 as the kernel writes it, on a column number. -/
theorem div256_word : ∀ mm : Fin 2048, Scalar.select
    (IntOp.andi
      (IntOp.cmpi CmpIPredicate.ne
        (IntOp.subi (BitVec.setWidth 32 (IntOp.cmpi CmpIPredicate.sgt (BitVec.ofNat 32 mm.val) 0#32))
          (BitVec.setWidth 32 (IntOp.cmpi CmpIPredicate.slt (BitVec.ofNat 32 mm.val) 0#32)))
        (Scalar.subi (Scalar.extui (Scalar.cmpi CmpIPredicate.sgt 256#32 0#32))
          (Scalar.extui (Scalar.cmpi CmpIPredicate.slt 256#32 0#32))))
      (IntOp.cmpi CmpIPredicate.ne (IntOp.remsi ArithUnit.vector (BitVec.ofNat 32 mm.val) 256#32) 0#32))
    (IntOp.subi (IntOp.divsi ArithUnit.vector (BitVec.ofNat 32 mm.val) 256#32) 1#32)
    (IntOp.divsi ArithUnit.vector (BitVec.ofNat 32 mm.val) 256#32) = BitVec.ofNat 32 (mm.val / 256) := by
  decide +kernel

/-- The number of 16, as the kernel guards it against 0. -/
theorem sixteen_word : Scalar.select (Scalar.cmpi CmpIPredicate.eq 16#32 0#32) 1#32 16#32 = 16#32 := by
  decide

/-- A remainder by 16 as the kernel writes it, on a column number. -/
theorem rem16_word : ∀ q : Fin 2048, Scalar.select
    (IntOp.andi
      (IntOp.xori (IntOp.cmpi CmpIPredicate.slt (IntOp.remsi ArithUnit.vector (BitVec.ofNat 32 q.val) 16#32) 0#32)
        (Scalar.cmpi CmpIPredicate.slt 16#32 0#32))
      (IntOp.cmpi CmpIPredicate.ne (IntOp.remsi ArithUnit.vector (BitVec.ofNat 32 q.val) 16#32) 0#32))
    (IntOp.addi (IntOp.remsi ArithUnit.vector (BitVec.ofNat 32 q.val) 16#32) 16#32)
    (IntOp.remsi ArithUnit.vector (BitVec.ofNat 32 q.val) 16#32) = BitVec.ofNat 32 (q.val % 16) := by
  decide +kernel

/-- The word of an equality of two small numbers, as a 0 or a 1. -/
theorem equal_word (a b : ℕ) (ha : a < 2048) (hb : b < 2048) :
    (FloatOps.sitofp (F := Ideal) FTy.f32 (BitVec.setWidth 32 (IntOp.cmpi CmpIPredicate.eq (BitVec.ofNat 32 a) (BitVec.ofNat 32 b))) : EReal)
      = if a = b then 1 else 0 := by
  by_cases h : a = b
  · subst h
    simp [IntOp.cmpi, FloatOps.sitofp]
  · have hne : BitVec.ofNat 32 a ≠ BitVec.ofNat 32 b := fun e => h (by
      have := congrArg BitVec.toNat e
      rw [BitVec.toNat_ofNat, BitVec.toNat_ofNat, Nat.mod_eq_of_lt (by omega), Nat.mod_eq_of_lt (by omega)] at this
      exact this)
    simp [IntOp.cmpi, FloatOps.sitofp, beq_eq_false_iff_ne.2 hne, h]

/-- The mask that spreads the columns of an update over a segment. -/
abbrev spread : FVec Ideal S128x2048 .bf16 :=
  k0_pay49 (iota .tc S128x2048 32 [0] iota_S128x2048_d0_w32) k0_pay45
    (Scalar.select (Scalar.cmpi .eq 16#32 0#32) 1#32 16#32) k0_pay46 k0_pay47 k0_pay48

/-- The spreading mask: column `mm` of a segment takes column `16 * (mm / 256) + mm % 16` of an update. -/
theorem spread_read (f : Fin 128) (mm : Fin 2048) :
    (spread (ix2 f mm) : EReal) = if f.val = 16 * (mm.val / 256) + mm.val % 16 then 1 else 0 := by
  pointwise [k0_pay49, k0_pay45, k0_pay46, k0_pay47, k0_pay48]
  rw [sixteen_word, rem16_word mm, div256_word mm, ← equal_word _ _ (by omega) (by omega)]
  rw [show IntOp.addi (IntOp.muli 16#32 (BitVec.ofNat 32 (mm.val / 256))) (BitVec.ofNat 32 (mm.val % 16))
      = BitVec.ofNat 32 (16 * (mm.val / 256) + mm.val % 16) from by
    show 16#32 * _ + _ = _
    rw [BitVec.ofNat_add, BitVec.ofNat_mul]]

/-- The mask that repeats the columns of a group of 16 coarse scores over a segment. -/
abbrev repeats : FVec Ideal S16x2048 .f32 :=
  k0_pay53 (iota .tc S16x2048 32 [0] iota_S16x2048_d0_w32)
    (Scalar.select (Scalar.cmpi .eq 16#32 0#32) 1#32 16#32) k0_pay50 k0_pay51 k0_pay52

/-- The repeating mask: column `mm` of a segment takes column `mm / 16 % 16` of a group. -/
theorem repeats_read (c : Fin 16) (mm : Fin 2048) :
    (repeats (ix2 c mm) : EReal) = if c.val = mm.val / 16 % 16 then 1 else 0 := by
  pointwise [k0_pay50, k0_pay51, k0_pay52, k0_pay53]
  rw [sixteen_word, div16_word mm, rem16_word ⟨mm.val / 16, by omega⟩, ← equal_word _ _ (by omega) (by omega)]

/-- The same mask, built a second time for the narrower products. -/
abbrev repeatsH : FVec Ideal S16x2048 .bf16 :=
  k0_pay58 (iota .tc S16x2048 32 [0] iota_S16x2048_d0_w32) (Scalar.select (Scalar.cmpi .eq 16#32 0#32) 1#32 16#32)
    (k0_pay54 (iota .tc S16x2048 32 [1] iota_S16x2048_d1_w32)) (k0_pay55 (iota .tc S16x2048 32 [1] iota_S16x2048_d1_w32))
    (k0_pay56 (iota .tc S16x2048 32 [1] iota_S16x2048_d1_w32)) k0_pay57

/-- The second repeating mask is the first. -/
theorem repeatsH_read (c : Fin 16) (mm : Fin 2048) :
    (repeatsH (ix2 c mm) : EReal) = if c.val = mm.val / 16 % 16 then 1 else 0 := by
  pointwise [k0_pay54, k0_pay55, k0_pay56, k0_pay57, k0_pay58]
  rw [sixteen_word, div16_word mm, rem16_word ⟨mm.val / 16, by omega⟩, ← equal_word _ _ (by omega) (by omega)]

/-- A product with a mask of one 1 in each column picks an entry. -/
theorem mask_sum {n : ℕ} (q : Fin n) (v w : Fin n → EReal) (hw : ∀ c, w c = if c.val = q.val then 1 else 0) :
    ∑ c, v c * w c = v q := by
  simp only [hw]
  rw [Finset.sum_eq_single q (fun c _ hc => by rw [if_neg (fun h => hc (Fin.ext h)), mul_zero])
    (fun h => absurd (Finset.mem_univ _) h), if_pos rfl, mul_one]

/-- The group column of a segment's column. -/
abbrev groupCol (mm : Fin 2048) : Fin 16 := ⟨mm.val / 16 % 16, Nat.mod_lt _ (by decide)⟩

/-- The update column of a segment's column. -/
abbrev updateCol (mm : Fin 2048) : Fin 128 := ⟨16 * (mm.val / 256) + mm.val % 16, by omega⟩

/-- Update 0 spread over a segment. -/
theorem spread0_read (u : Vec Ideal S64x512 .f32) (r : Fin 64) (mm : Fin 2048) :
    (k0_pay59 u spread (ix2 r mm) : EReal) = u (ix2 r ⟨(updateCol mm).val, by omega⟩) := by
  pointwise [k0_pay59]
  exact mask_sum (updateCol mm) (fun c => (u (ix2 r ⟨c.val, by omega⟩) : EReal)) _ fun c => spread_read c mm

/-- Update 1 spread over a segment. -/
theorem spread1_read (u : Vec Ideal S64x512 .f32) (r : Fin 64) (mm : Fin 2048) :
    (k0_pay60 u spread (ix2 r mm) : EReal) = u (ix2 r ⟨128 + (updateCol mm).val, by omega⟩) := by
  pointwise [k0_pay60]
  exact mask_sum (updateCol mm) (fun c => (u (ix2 r ⟨128 + c.val, by omega⟩) : EReal)) _ fun c => spread_read c mm

/-- Update 2 spread over a segment. -/
theorem spread2_read (u : Vec Ideal S64x512 .f32) (r : Fin 64) (mm : Fin 2048) :
    (k0_pay61 u spread (ix2 r mm) : EReal) = u (ix2 r ⟨256 + (updateCol mm).val, by omega⟩) := by
  pointwise [k0_pay61]
  exact mask_sum (updateCol mm) (fun c => (u (ix2 r ⟨256 + c.val, by omega⟩) : EReal)) _ fun c => spread_read c mm

/-- Update 3 spread over a segment. -/
theorem spread3_read (u : Vec Ideal S64x512 .f32) (r : Fin 64) (mm : Fin 2048) :
    (k0_pay62 u spread (ix2 r mm) : EReal) = u (ix2 r ⟨384 + (updateCol mm).val, by omega⟩) := by
  pointwise [k0_pay62]
  exact mask_sum (updateCol mm) (fun c => (u (ix2 r ⟨384 + c.val, by omega⟩) : EReal)) _ fun c => spread_read c mm

/-- The picked places as 0 and 1, the four rounds stacked: round `k`'s row `r` is row `64 * k + r`. -/
theorem stack_read (i : Vec Ideal S64x4 .i32) (k : Fin 4) (r : Fin 64) (n : Fin 256) (q : Fin 256) (hq : i (ix2 r k) = BitVec.ofNat 32 q.val) :
    (k0_pay63 i (ix2 ⟨64 * k.val + r.val, by omega⟩ n) : EReal) = if q = n then 1 else 0 := by
  have e : (if q = n then (1 : EReal) else 0) = FloatOps.sitofp (F := Ideal) FTy.f32
      (BitVec.setWidth 32 (IntOp.cmpi CmpIPredicate.eq (BitVec.ofNat 32 n.val) (i (ix2 r k)))) := by
    rw [hq, equal_word _ _ (by omega) (by omega)]
    exact if_congr ⟨fun h => h ▸ rfl, fun h => Fin.ext h.symm⟩ rfl rfl
  rw [e]
  pointwise [k0_pay63]
  obtain ⟨k, hk⟩ := k
  rcases (by omega : k = 0 ∨ k = 1 ∨ k = 2 ∨ k = 3) with rfl | rfl | rfl | rfl
  · rw [dif_pos (by simp)]
    congr 5
    simp
  · rw [dif_neg (by simp), dif_pos (by simp)]
    congr 5
    simp
  · rw [dif_neg (by simp <;> omega), dif_neg (by simp <;> omega), dif_pos (by simp; omega)]
    congr 6
    simp
    omega
  · rw [dif_neg (by simp <;> omega), dif_neg (by simp <;> omega), dif_neg (by simp; omega)]
    congr 6
    simp
    omega

/-- A group of 16 columns lies inside the scores. -/
theorem groupSlices (o : ℕ) (ho : o + 16 ≤ 256) : S64x256.Slices ![0, o] S64x16 :=
  ⟨rfl, fun a => by fin_cases a; exact (by decide : 0 + 64 ≤ 64); exact ho⟩

/-- A group of 16 columns lies inside the stacked picks. -/
theorem stackSlices (o : ℕ) (ho : o + 16 ≤ 256) : S256x256.Slices ![0, o] S256x16 :=
  ⟨rfl, fun a => by fin_cases a; exact (by decide : 0 + 256 ≤ 256); exact ho⟩

/-- One segment of the output block: the group of 16 coarse scores at column `o`, repeated, less `log 128`, plus the four
    rounds' updates where the round picked the column. -/
def segment (o : ℕ) (ho : o + 16 ≤ 256)
    (v10 : Vec Ideal S64x256 .f32) (v108 : FVec Ideal S16x2048 .f32) (v152 : FVec Ideal S16x2048 .bf16) (v155 v158 v161 v164 : FVec Ideal S64x2048 .f32)
    (v192 : FVec Ideal S256x256 .bf16) : FVec Ideal S64x2048 .f32 :=
  have v193 : FVec Ideal S64x16 .f32 := extractStridedSlice S64x16 ![0, o] v10 (groupSlices o ho)
  have v194 : FVec Ideal S64x2048 .f32 := matmul dot_S64x16_S16x2048_S64x2048_1_0_0_1_n_n none v193 v108 (constant S64x2048 .f32 0x00000000#32)
  have v196 : FVec Ideal S64x2048 .f32 := subf v194 (broadcast S64x2048 (Scalar.ofBits .f32 0x409B43D5#32))
  have v197 : FVec Ideal S256x16 .bf16 := extractStridedSlice S256x16 ![0, o] v192 (stackSlices o ho)
  have v198 : FVec Ideal S256x2048 .f32 := matmul dot_S256x16_S16x2048_S256x2048_1_0_0_1_n_n none v197 v152 (constant S256x2048 .f32 0x00000000#32)
  addf (addf (addf (addf v196 (mulf (extractStridedSlice S64x2048 ![0, 0] v198 slices_S256x2048_o0_0_S64x2048) v155))
    (mulf (extractStridedSlice S64x2048 ![64, 0] v198 slices_S256x2048_o64_0_S64x2048) v158))
    (mulf (extractStridedSlice S64x2048 ![128, 0] v198 slices_S256x2048_o128_0_S64x2048) v161))
    (mulf (extractStridedSlice S64x2048 ![192, 0] v198 slices_S256x2048_o192_0_S64x2048) v164)

/-- A 0 or 1 times a number. -/
theorem hit {p : Prop} [Decidable p] {a b x : EReal} (ha : a = if p then 1 else 0) (hb : b = x) : a * b = if p then x else 0 := by
  subst ha hb
  split <;> simp

/-- A segment as its sums, whatever the masks and the updates are. -/
theorem segment_sums (o : ℕ) (ho : o + 16 ≤ 256) (v10 : Vec Ideal S64x256 .f32) (v108 : FVec Ideal S16x2048 .f32) (v152 : FVec Ideal S16x2048 .bf16)
    (v155 v158 v161 v164 : FVec Ideal S64x2048 .f32) (v192 : FVec Ideal S256x256 .bf16) (r : Fin 64) (mm : Fin 2048) :
    (segment o ho v10 v108 v152 v155 v158 v161 v164 v192 (ix2 r mm) : EReal) =
      (∑ c : Fin 16, v10 (ix2 r ⟨o + c.val, by omega⟩) * v108 (ix2 c mm)) - Ideal.ofBits .f32 0x409B43D5#32
        + (∑ c : Fin 16, v192 (ix2 (⟨r.val, by omega⟩ : Fin 256) ⟨o + c.val, by omega⟩) * v152 (ix2 c mm)) * v155 (ix2 r mm)
        + (∑ c : Fin 16, v192 (ix2 (⟨64 + r.val, by omega⟩ : Fin 256) ⟨o + c.val, by omega⟩) * v152 (ix2 c mm)) * v158 (ix2 r mm)
        + (∑ c : Fin 16, v192 (ix2 (⟨128 + r.val, by omega⟩ : Fin 256) ⟨o + c.val, by omega⟩) * v152 (ix2 c mm)) * v161 (ix2 r mm)
        + (∑ c : Fin 16, v192 (ix2 (⟨192 + r.val, by omega⟩ : Fin 256) ⟨o + c.val, by omega⟩) * v152 (ix2 c mm)) * v164 (ix2 r mm) := by
  pointwise [segment]

/-- A segment at an entry. -/
theorem segment_read (o : ℕ) (ho : o + 16 ≤ 256)
    (v10 : Vec Ideal S64x256 .f32) (u : Vec Ideal S64x512 .f32) (i : Vec Ideal S64x4 .i32) (r : Fin 64) (mm : Fin 2048)
    (q : Fin 4 → Fin 256) (hq : ∀ k, i (ix2 r k) = BitVec.ofNat 32 (q k).val) :
    (segment o ho v10 repeats repeatsH (k0_pay59 u spread) (k0_pay60 u spread) (k0_pay61 u spread) (k0_pay62 u spread) (k0_pay63 i) (ix2 r mm) : EReal)
      = entry (fun n => v10 (ix2 r n)) q (fun k f => u (ix2 r ⟨128 * k.val + f.val, by omega⟩)) ⟨o + (groupCol mm).val, by omega⟩ (updateCol mm) := by
  have hs : ∀ (k : Fin 4) (a : Fin 256), a.val = 64 * k.val + r.val →
      ∑ c : Fin 16, (k0_pay63 i (ix2 a ⟨o + c.val, by omega⟩) : EReal) * repeatsH (ix2 c mm)
        = if q k = ⟨o + (groupCol mm).val, by omega⟩ then 1 else 0 := fun k a ha => by
    rw [mask_sum (groupCol mm) (fun c => (k0_pay63 i (ix2 a ⟨o + c.val, by omega⟩) : EReal)) _ fun c => repeatsH_read c mm,
      ← stack_read i k r _ (q k) (hq k)]
    exact congrArg (fun a => k0_pay63 i (ix2 a _)) (Fin.ext ha)
  rw [segment_sums]
  exact congrArg₂ (· + ·) (congrArg₂ (· + ·) (congrArg₂ (· + ·) (congrArg₂ (· + ·)
    (congrArg (· - Ideal.ofBits .f32 0x409B43D5#32)
      (mask_sum (groupCol mm) (fun c => (v10 (ix2 r ⟨o + c.val, by omega⟩) : EReal)) _ fun c => repeats_read c mm))
    (hit (hs 0 _ (by simp)) ((spread0_read u r mm).trans (congrArg (fun x => u (ix2 r x)) (Fin.ext (by simp)))))) (hit (hs 1 _ (by simp)) (spread1_read u r mm)))
    (hit (hs 2 _ (by simp)) (spread2_read u r mm))) (hit (hs 3 _ (by simp)) (spread3_read u r mm))

/-- The no-op column and the 16 segments, as the kernel computes them. -/
def pieces (v14 : Vec Ideal S64x1 .f32) (v10 : Vec Ideal S64x256 .f32) (v108 : FVec Ideal S16x2048 .f32) (v152 : FVec Ideal S16x2048 .bf16)
    (v155 v158 v161 v164 : FVec Ideal S64x2048 .f32) (v192 : FVec Ideal S256x256 .bf16) :
    List ((s : Shape) × (s.Idx → EReal)) :=
  [⟨S64x1, v14⟩,
    ⟨S64x2048, k0_pay65 v152 v155 v158 v161 v164 v192 (k0_pay64 v10 v108)⟩,
    ⟨S64x2048, k0_pay66 v10 v108 v152 v155 v158 v161 v164 v192⟩,
    ⟨S64x2048, k0_pay67 v10 v108 v152 v155 v158 v161 v164 v192⟩,
    ⟨S64x2048, k0_pay69 v152 v155 v158 v161 v164 v192 (k0_pay68 v10 v108)⟩,
    ⟨S64x2048, k0_pay70 v10 v108 v152 v155 v158 v161 v164 v192⟩,
    ⟨S64x2048, k0_pay71 v10 v108 v152 v155 v158 v161 v164 v192⟩,
    ⟨S64x2048, k0_pay72 v10 v108 v152 v155 v158 v161 v164 v192⟩,
    ⟨S64x2048, k0_pay73 v10 v108 v152 v155 v158 v161 v164 v192⟩,
    ⟨S64x2048, k0_pay76 v164 (k0_pay74 v152 v192) (k0_pay75 v10 v108 v152 v155 v158 v161 v192)⟩,
    ⟨S64x2048, k0_pay77 v10 v108 v152 v155 v158 v161 v164 v192⟩,
    ⟨S64x2048, k0_pay78 v10 v108 v152 v155 v158 v161 v164 v192⟩,
    ⟨S64x2048, k0_pay81 v161 v164 (k0_pay79 v152 v192) (k0_pay80 v10 v108 v152 v155 v158 v192)⟩,
    ⟨S64x2048, k0_pay82 v10 v108 v152 v155 v158 v161 v164 v192⟩,
    ⟨S64x2048, k0_pay83 v10 v108 v152 v155 v158 v161 v164 v192⟩,
    ⟨S64x2048, k0_pay1 v158 v161 v164 (k0_pay84 v152 v192) (k0_pay85 v10 v108 v152 v155 v192)⟩,
    ⟨S64x2048, k0_pay2 v10 v108 v152 v155 v158 v161 v164 v192⟩]

/-- Each piece after the first is a segment. -/
theorem piece_at (v14 : Vec Ideal S64x1 .f32) (v10 : Vec Ideal S64x256 .f32) (v108 : FVec Ideal S16x2048 .f32) (v152 : FVec Ideal S16x2048 .bf16)
    (v155 v158 v161 v164 : FVec Ideal S64x2048 .f32) (v192 : FVec Ideal S256x256 .bf16) (ch : Fin 16) :
    (pieces v14 v10 v108 v152 v155 v158 v161 v164 v192)[ch.val + 1]'(by show _ < 17; omega)
      = ⟨S64x2048, segment (16 * ch.val) (by omega) v10 v108 v152 v155 v158 v161 v164 v192⟩ := by
  fin_cases ch <;> rfl

/-- The pieces before segment `ch` take up the columns before it. -/
theorem before_piece (v14 : Vec Ideal S64x1 .f32) (v10 : Vec Ideal S64x256 .f32) (v108 : FVec Ideal S16x2048 .f32) (v152 : FVec Ideal S16x2048 .bf16)
    (v155 v158 v161 v164 : FVec Ideal S64x2048 .f32) (v192 : FVec Ideal S256x256 .bf16) (ch : Fin 16) :
    ((((pieces v14 v10 v108 v152 v155 v158 v161 v164 v192).take (ch.val + 1)).map (·.1)).map fun s =>
        if h : s.rank = S64x32769.rank then s.size ((1 : Fin S64x32769.rank).cast h.symm) else 0).sum = 1 + 2048 * ch.val := by
  rw [List.map_take]
  show (((S64x1 :: List.replicate 16 S64x2048).take (ch.val + 1)).map fun s : Shape =>
        if h : s.rank = S64x32769.rank then s.size ((1 : Fin S64x32769.rank).cast h.symm) else 0).sum = 1 + 2048 * ch.val
  revert ch
  decide +kernel

/-- The row made of the pieces. -/
def joined (v14 : Vec Ideal S64x1 .f32) (v10 : Vec Ideal S64x256 .f32) (v108 : FVec Ideal S16x2048 .f32) (v152 : FVec Ideal S16x2048 .bf16)
    (v155 v158 v161 v164 : FVec Ideal S64x2048 .f32) (v192 : FVec Ideal S256x256 .bf16) : FVec Ideal S64x32769 .f32 :=
  k0_pay3 v14
    (k0_pay65 v152 v155 v158 v161 v164 v192 (k0_pay64 v10 v108))
    (k0_pay66 v10 v108 v152 v155 v158 v161 v164 v192)
    (k0_pay67 v10 v108 v152 v155 v158 v161 v164 v192)
    (k0_pay69 v152 v155 v158 v161 v164 v192 (k0_pay68 v10 v108))
    (k0_pay70 v10 v108 v152 v155 v158 v161 v164 v192)
    (k0_pay71 v10 v108 v152 v155 v158 v161 v164 v192)
    (k0_pay72 v10 v108 v152 v155 v158 v161 v164 v192)
    (k0_pay73 v10 v108 v152 v155 v158 v161 v164 v192)
    (k0_pay76 v164 (k0_pay74 v152 v192) (k0_pay75 v10 v108 v152 v155 v158 v161 v192))
    (k0_pay77 v10 v108 v152 v155 v158 v161 v164 v192)
    (k0_pay78 v10 v108 v152 v155 v158 v161 v164 v192)
    (k0_pay81 v161 v164 (k0_pay79 v152 v192) (k0_pay80 v10 v108 v152 v155 v158 v192))
    (k0_pay82 v10 v108 v152 v155 v158 v161 v164 v192)
    (k0_pay83 v10 v108 v152 v155 v158 v161 v164 v192)
    (k0_pay1 v158 v161 v164 (k0_pay84 v152 v192) (k0_pay85 v10 v108 v152 v155 v192))
    (k0_pay2 v10 v108 v152 v155 v158 v161 v164 v192)

/-- The row made of the pieces, at a column of segment `ch`. -/
theorem joined_read (v14 : Vec Ideal S64x1 .f32) (v10 : Vec Ideal S64x256 .f32) (v108 : FVec Ideal S16x2048 .f32) (v152 : FVec Ideal S16x2048 .bf16)
    (v155 v158 v161 v164 : FVec Ideal S64x2048 .f32) (v192 : FVec Ideal S256x256 .bf16) (r : Fin 64) (ch : Fin 16) (mm : Fin 2048) :
    (joined v14 v10 v108 v152 v155 v158 v161 v164 v192 (ix2 r ⟨1 + 2048 * ch.val + mm.val, by omega⟩) : EReal)
      = segment (16 * ch.val) (by omega) v10 v108 v152 v155 v158 v161 v164 v192 (ix2 r mm) := by
  unfold joined k0_pay3
  exact concatenate_apply_piece (α := EReal) (t := S64x32769) 1 (pieces v14 v10 v108 v152 v155 v158 v161 v164 v192) _ (ix2 r ⟨1 + 2048 * ch.val + mm.val, by omega⟩)
    (ch.val + 1) (by show _ < 17; omega) S64x2048 _ (piece_at v14 v10 v108 v152 v155 v158 v161 v164 v192 ch) rfl (1 + 2048 * ch.val)
    (before_piece v14 v10 v108 v152 v155 v158 v161 v164 v192 ch) (ix2 r mm)
    (fun b hb => by fin_cases b; rfl; exact absurd rfl hb) rfl

/-- The expansion of 64 rows: the no-op column and the 16 segments side by side. -/
abbrev expand (v10 : Vec Ideal S64x256 .f32) (u : Vec Ideal S64x512 .f32) (v14 : Vec Ideal S64x1 .f32) (i : Vec Ideal S64x4 .i32) : FVec Ideal S64x32769 .f32 :=
  joined v14 v10 repeats repeatsH (k0_pay59 u spread) (k0_pay60 u spread) (k0_pay61 u spread) (k0_pay62 u spread) (k0_pay63 i)

/-- The row made of the pieces, at the no-op column. -/
theorem joined_noop (v14 : Vec Ideal S64x1 .f32) (v10 : Vec Ideal S64x256 .f32) (v108 : FVec Ideal S16x2048 .f32) (v152 : FVec Ideal S16x2048 .bf16)
    (v155 v158 v161 v164 : FVec Ideal S64x2048 .f32) (v192 : FVec Ideal S256x256 .bf16) (r : Fin 64) :
    joined v14 v10 v108 v152 v155 v158 v161 v164 v192 (ix2 r 0) = v14 (ix2 r 0) := by
  pointwise [joined, k0_pay3]

/-- The expansion at a column of segment `ch`. -/
theorem expand_read (v10 : Vec Ideal S64x256 .f32) (u : Vec Ideal S64x512 .f32) (v14 : Vec Ideal S64x1 .f32) (i : Vec Ideal S64x4 .i32) (r : Fin 64)
    (ch : Fin 16) (mm : Fin 2048) (q : Fin 4 → Fin 256) (hq : ∀ k, i (ix2 r k) = BitVec.ofNat 32 (q k).val) :
    (expand v10 u v14 i (ix2 r ⟨1 + 2048 * ch.val + mm.val, by omega⟩) : EReal)
      = entry (fun n => v10 (ix2 r n)) q (fun k f => u (ix2 r ⟨128 * k.val + f.val, by omega⟩)) ⟨16 * ch.val + (groupCol mm).val, by omega⟩ (updateCol mm) :=
  (joined_read _ _ _ _ _ _ _ _ _ r ch mm).trans (segment_read (16 * ch.val) (by omega) v10 u i r mm q hq)

end Cert.KernelIdeal.Reads

end
-- ==== Proof.Held.lean ====
/- What each grid point leaves, read at an entry: the stored weights, the row block's computed columns, and the 64 rows
   expanded from them; then the whole output array. -/
module

public import proofs.«01_k».proof.Proof.Body
public import proofs.«01_k».proof.Proof.Blocks
public import proofs.«01_k».proof.Proof.Tail

@[expose] public section

set_option maxRecDepth 16384

noncomputable section

namespace Cert.KernelIdeal.Whole

open Cert.KernelIdeal.Gen Cert.KernelIdeal.Reads Idealize.ShloMosaic Idealize.ShloMosaic.TcCoe Idealize.ShloMosaic.Tactic Cert.Rows

variable (m : (ℓ : Loc nD τ sig) → Buf (Elt Ideal) ℓ)

/-! ## The blocks of the arguments -/

/-- The row block of a point. -/
theorem index_0 : ∀ t : Fin cfg0.N, win0_0.index t (0 : Fin 2) = t.val / 4 ∧ win0_0.index t (1 : Fin 2) = 0 :=
  (by decide +kernel : ∀ t : Fin grid0.N, _)

/-- The rows a point's block holds. -/
abbrev rowsAt (c : Dev nD) (t : Fin cfg0.N) (r : Fin 256) : Fin 1024 → EReal := fun k =>
  V m c main_arg0 (ix2 ⟨256 * (t.val / 4) + r.val, by have := lt_of_lt_of_eq t.isLt (show cfg0.N = 16 from N_0); omega⟩ k)

/-- The block of the rows. -/
theorem block_0 (c : Dev nD) (t : Fin cfg0.N) (r : Fin 256) : (fun k => (iblk m c 0 t (ix2 r k) : EReal)) = rowsAt m c t r := by
  obtain ⟨e0, e1⟩ := index_0 t
  refine funext fun k => congrArg (V m c main_arg0) (funext fun a => Fin.ext ?_)
  match a with
  | ⟨0, _⟩ => show win0_0.index t (0 : Fin 2) * 256 + 1 * r.val = 256 * (t.val / 4) + r.val; omega
  | ⟨1, _⟩ => show win0_0.index t (1 : Fin 2) * 1024 + 1 * k.val = k.val; omega

/-- The block of argument 1 is the argument. -/
theorem block_1 (c : Dev nD) (t : Fin cfg0.N) : iblk m c 1 t = V m c main_arg1 :=
  View.ld_unit_zero (S := S1024) (funext ((by decide +kernel : ∀ t : Fin grid0.N, ∀ a, win0_1.index t a * win0_1.size a = 0) t)) _ (V m c main_arg1)

/-- The block of argument 2 is the argument. -/
theorem block_2 (c : Dev nD) (t : Fin cfg0.N) : iblk m c 2 t = V m c main_arg2 :=
  View.ld_unit_zero (S := S1024) (funext ((by decide +kernel : ∀ t : Fin grid0.N, ∀ a, win0_2.index t a * win0_2.size a = 0) t)) _ (V m c main_arg2)

/-- The block of argument 3 is the argument. -/
theorem block_3 (c : Dev nD) (t : Fin cfg0.N) : iblk m c 3 t = V m c main_arg3 :=
  View.ld_unit_zero (S := S1024x1) (funext ((by decide +kernel : ∀ t : Fin grid0.N, ∀ a, win0_3.index t a * win0_3.size a = 0) t)) _ (V m c main_arg3)

/-- The block of argument 4 is the argument. -/
theorem block_4 (c : Dev nD) (t : Fin cfg0.N) : iblk m c 4 t = V m c main_arg4 :=
  View.ld_unit_zero (S := S1) (funext ((by decide +kernel : ∀ t : Fin grid0.N, ∀ a, win0_4.index t a * win0_4.size a = 0) t)) _ (V m c main_arg4)

/-- The block of argument 5 is the argument. -/
theorem block_5 (c : Dev nD) (t : Fin cfg0.N) : iblk m c 5 t = V m c main_arg5 :=
  View.ld_unit_zero (S := S1024x1024) (funext ((by decide +kernel : ∀ t : Fin grid0.N, ∀ a, win0_5.index t a * win0_5.size a = 0) t)) _ (V m c main_arg5)

/-- The block of argument 6 is the argument. -/
theorem block_6 (c : Dev nD) (t : Fin cfg0.N) : iblk m c 6 t = V m c main_arg6 :=
  View.ld_unit_zero (S := S1024) (funext ((by decide +kernel : ∀ t : Fin grid0.N, ∀ a, win0_6.index t a * win0_6.size a = 0) t)) _ (V m c main_arg6)

/-- The block of argument 7 is the argument. -/
theorem block_7 (c : Dev nD) (t : Fin cfg0.N) : iblk m c 7 t = V m c main_arg7 :=
  View.ld_unit_zero (S := S1024x1024) (funext ((by decide +kernel : ∀ t : Fin grid0.N, ∀ a, win0_7.index t a * win0_7.size a = 0) t)) _ (V m c main_arg7)

/-- The block of argument 8 is the argument. -/
theorem block_8 (c : Dev nD) (t : Fin cfg0.N) : iblk m c 8 t = V m c main_arg8 :=
  View.ld_unit_zero (S := S1024) (funext ((by decide +kernel : ∀ t : Fin grid0.N, ∀ a, win0_8.index t a * win0_8.size a = 0) t)) _ (V m c main_arg8)

/-- The block of argument 9 is the argument. -/
theorem block_9 (c : Dev nD) (t : Fin cfg0.N) : iblk m c 9 t = V m c main_arg9 :=
  View.ld_unit_zero (S := S1024x256) (funext ((by decide +kernel : ∀ t : Fin grid0.N, ∀ a, win0_9.index t a * win0_9.size a = 0) t)) _ (V m c main_arg9)

/-- The block of argument 10 is the argument. -/
theorem block_10 (c : Dev nD) (t : Fin cfg0.N) : iblk m c 10 t = V m c main_arg10 :=
  View.ld_unit_zero (S := S256) (funext ((by decide +kernel : ∀ t : Fin grid0.N, ∀ a, win0_10.index t a * win0_10.size a = 0) t)) _ (V m c main_arg10)

/-- The block of argument 11 is the argument. -/
theorem block_11 (c : Dev nD) (t : Fin cfg0.N) : iblk m c 11 t = V m c main_arg11 :=
  View.ld_unit_zero (S := S256x1024) (funext ((by decide +kernel : ∀ t : Fin grid0.N, ∀ a, win0_11.index t a * win0_11.size a = 0) t)) _ (V m c main_arg11)

/-- The block of argument 12 is the argument. -/
theorem block_12 (c : Dev nD) (t : Fin cfg0.N) : iblk m c 12 t = V m c main_arg12 :=
  View.ld_unit_zero (S := S1024) (funext ((by decide +kernel : ∀ t : Fin grid0.N, ∀ a, win0_12.index t a * win0_12.size a = 0) t)) _ (V m c main_arg12)

/-- The block of argument 13 is the argument. -/
theorem block_13 (c : Dev nD) (t : Fin cfg0.N) : iblk m c 13 t = V m c main_arg13 :=
  View.ld_unit_zero (S := S1024) (funext ((by decide +kernel : ∀ t : Fin grid0.N, ∀ a, win0_13.index t a * win0_13.size a = 0) t)) _ (V m c main_arg13)

/-- The block of argument 14 is the argument. -/
theorem block_14 (c : Dev nD) (t : Fin cfg0.N) : iblk m c 14 t = V m c main_arg14 :=
  View.ld_unit_zero (S := S2048x1024) (funext ((by decide +kernel : ∀ t : Fin grid0.N, ∀ a, win0_14.index t a * win0_14.size a = 0) t)) _ (V m c main_arg14)

/-- The block of argument 15 is the argument. -/
theorem block_15 (c : Dev nD) (t : Fin cfg0.N) : iblk m c 15 t = V m c main_arg15 :=
  View.ld_unit_zero (S := S1024) (funext ((by decide +kernel : ∀ t : Fin grid0.N, ∀ a, win0_15.index t a * win0_15.size a = 0) t)) _ (V m c main_arg15)

/-- The block of argument 16 is the argument. -/
theorem block_16 (c : Dev nD) (t : Fin cfg0.N) : iblk m c 16 t = V m c main_arg16 :=
  View.ld_unit_zero (S := S1024x1024) (funext ((by decide +kernel : ∀ t : Fin grid0.N, ∀ a, win0_16.index t a * win0_16.size a = 0) t)) _ (V m c main_arg16)

/-- The block of argument 17 is the argument. -/
theorem block_17 (c : Dev nD) (t : Fin cfg0.N) : iblk m c 17 t = V m c main_arg17 :=
  View.ld_unit_zero (S := S1024) (funext ((by decide +kernel : ∀ t : Fin grid0.N, ∀ a, win0_17.index t a * win0_17.size a = 0) t)) _ (V m c main_arg17)

/-- The block of argument 18 is the argument. -/
theorem block_18 (c : Dev nD) (t : Fin cfg0.N) : iblk m c 18 t = V m c main_arg18 :=
  View.ld_unit_zero (S := S1024x128) (funext ((by decide +kernel : ∀ t : Fin grid0.N, ∀ a, win0_18.index t a * win0_18.size a = 0) t)) _ (V m c main_arg18)

/-- The block of argument 19 is the argument. -/
theorem block_19 (c : Dev nD) (t : Fin cfg0.N) : iblk m c 19 t = V m c main_arg19 :=
  View.ld_unit_zero (S := S128) (funext ((by decide +kernel : ∀ t : Fin grid0.N, ∀ a, win0_19.index t a * win0_19.size a = 0) t)) _ (V m c main_arg19)

/-- The weights the kernel is given. -/
abbrev wts (c : Dev nD) : Weights :=
  weights (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19)

/-! ## What a point's buffers are to hold -/

/-- The stored weights are the weights. -/
structure Stored (w : Weights) (s0 s1 : Vec Ideal S1024x1024 .bf16) (s2 : Vec Ideal S256x1024 .bf16) (s3 : Vec Ideal S1024x1024 .bf16)
    (s4 : Vec Ideal S1024x128 .bf16) : Prop where
  lo : ∀ k j, (s0 (ix2 k j) : EReal) = w.fW1 (lower k) j
  up : ∀ k j, (s1 (ix2 k j) : EReal) = w.fW1 (upper k) j
  em : ∀ n j, (s2 (ix2 n j) : EReal) = w.emb n j
  w2 : ∀ k j, (s3 (ix2 k j) : EReal) = w.fW2 k j
  w3 : ∀ k j, (s4 (ix2 k j) : EReal) = w.fW3 k j

/-- The computed columns are those of the rows `X`. -/
structure Computed (w : Weights) (X : Fin 256 → Fin 1024 → EReal) (s5 : Vec Ideal S256x1 .f32) (s6 : Vec Ideal S256x256 .f32)
    (s7 : Vec Ideal S256x4 .i32) (s8 : Vec Ideal S256x512 .f32) : Prop where
  no : ∀ r, (s5 (ix2 r 0) : EReal) = w.noop (X r)
  sc : ∀ r n, (s6 (ix2 r n) : EReal) = w.score (X r) n
  pk : ∀ r k, s7 (ix2 r k) = BitVec.ofNat 32 (w.picked (X r) k).val
  br : ∀ r k f, (s8 (ix2 r ⟨128 * k.val + f.val, by omega⟩) : EReal) = w.branch (X r) k f

/-- The scores of a point's row block. -/
abbrev scoreBlock (c : Dev nD) (t : Fin cfg0.N) : FVec Ideal S256x256 .f32 :=
  k0_pay8 (k0_pay6 (iblk m c 0 t) (iblk m c 1 t) (iblk m c 2 t) (iblk m c 5 t)) (k0_pay7 (iblk m c 6 t)) (iblk m c 7 t) (iblk m c 8 t) (iblk m c 9 t) (iblk m c 10 t)

/-- The first round's column choices of a point's row block. -/
abbrev roundBlock (c : Dev nD) (t : Fin cfg0.N) : IVec S256x256 32 :=
  k0_pay10 (k0_pay6 (iblk m c 0 t) (iblk m c 1 t) (iblk m c 2 t) (iblk m c 5 t)) (k0_pay7 (iblk m c 6 t)) (iblk m c 7 t) (iblk m c 8 t) (iblk m c 9 t) (iblk m c 10 t)

/-- The four stored columns of picks. -/
abbrev pickBlock (c : Dev nD) (t : Fin cfg0.N) : Vec Ideal S256x4 .i32 :=
  View.canon (Val := Elt Ideal) (s := S256x4) (e := .i32)
    [⟨Rect.unit ![0, 3] ![256, 1] inb_S256x4_S256x1_0_3, k0_pay22 places (k0_pay19 (scoreBlock m c t) places (roundBlock m c t)) (k0_pay20 (scoreBlock m c t) places (roundBlock m c t))⟩,
      ⟨Rect.unit ![0, 2] ![256, 1] inb_S256x4_S256x1_0_2, k0_pay18 (scoreBlock m c t) places (roundBlock m c t)⟩,
      ⟨Rect.unit ![0, 1] ![256, 1] inb_S256x4_S256x1_0_1, k0_pay15 (scoreBlock m c t) places (roundBlock m c t)⟩,
      ⟨Rect.unit ![0, 0] ![256, 1] inb_S256x4_S256x1_0_0, k0_pay12 (roundBlock m c t)⟩]

/-- The four stored updates, from the stored weights. -/
abbrev updateBlock (c : Dev nD) (t : Fin cfg0.N) (s0 s1 : Vec Ideal S1024x1024 .bf16) (s2 : Vec Ideal S256x1024 .bf16) (s3 : Vec Ideal S1024x1024 .bf16)
    (s4 : Vec Ideal S1024x128 .bf16) : Vec Ideal S256x512 .f32 :=
  View.canon (Val := Elt Ideal) (s := S256x512) (e := .f32)
    [⟨Rect.unit ![0, 384] ![256, 128] inb_S256x512_S256x128_0_384,
        k0_pay44 (k0_pay37 (k0_pay23 (k0_pay4 (iblk m c 0 t) (iblk m c 1 t) (iblk m c 2 t)) s0) (iblk m c 12 t) (iblk m c 13 t)
          (k0_pay36 places (k0_pay21 places (k0_pay19 (scoreBlock m c t) places (roundBlock m c t)) (k0_pay20 (scoreBlock m c t) places (roundBlock m c t))) s2)
          s1 (iblk m c 15 t) s3 (iblk m c 17 t) s4) (k0_pay38 (iblk m c 19 t))⟩,
      ⟨Rect.unit ![0, 256] ![256, 128] inb_S256x512_S256x128_0_256,
        k0_pay35 (k0_pay33 (k0_pay23 (k0_pay4 (iblk m c 0 t) (iblk m c 1 t) (iblk m c 2 t)) s0) (iblk m c 13 t)
          (k0_pay31 places (k0_pay17 (scoreBlock m c t) places (roundBlock m c t)) s2) (k0_pay32 (iblk m c 12 t))
          s1 (iblk m c 15 t) s3 (iblk m c 17 t) s4) (k0_pay34 (iblk m c 19 t))⟩,
      ⟨Rect.unit ![0, 128] ![256, 128] inb_S256x512_S256x128_0_128,
        k0_pay30 (k0_pay29 (k0_pay23 (k0_pay4 (iblk m c 0 t) (iblk m c 1 t) (iblk m c 2 t)) s0) (iblk m c 13 t)
          (k0_pay27 places (k0_pay14 (scoreBlock m c t) places (roundBlock m c t)) s2) (k0_pay28 (iblk m c 12 t))
          s1 (iblk m c 15 t) s3 (iblk m c 17 t) s4 (iblk m c 19 t))⟩,
      ⟨Rect.unit ![0, 0] ![256, 128] inb_S256x512_S256x128_0_0,
        k0_pay26 (k0_pay25 (k0_pay23 (k0_pay4 (iblk m c 0 t) (iblk m c 1 t) (iblk m c 2 t)) s0) (iblk m c 13 t)
          (k0_pay24 places (k0_pay11 (roundBlock m c t)) s2 (iblk m c 12 t))
          s1 (iblk m c 15 t) s3 (iblk m c 17 t) s4 (iblk m c 19 t))⟩]

/-- A row's scores in a point's row block. -/
theorem scoreBlock_read (c : Dev nD) (t : Fin cfg0.N) (r : Fin 256) :
    (fun n => (scoreBlock m c t (ix2 r n) : EReal)) = (wts m c).score (rowsAt m c t r) := by
  funext n
  refine (coarse_read _ _ _ _ _ _ _ _ _ r n).trans ?_
  rw [block_0, block_1, block_2, block_5, block_6, block_7, block_8, block_9, block_10]
  rfl

/-- What a point computes for its row block, the weights being stored. -/
theorem computed_block (c : Dev nD) (t : Fin cfg0.N) {s0 s1 : Vec Ideal S1024x1024 .bf16} {s2 : Vec Ideal S256x1024 .bf16} {s3 : Vec Ideal S1024x1024 .bf16}
    {s4 : Vec Ideal S1024x128 .bf16} (h : Stored (wts m c) s0 s1 s2 s3 s4) :
    Computed (wts m c) (rowsAt m c t) (k0_pay5 (iblk m c 0 t) (iblk m c 1 t) (iblk m c 2 t) (iblk m c 3 t) (iblk m c 4 t))
      (k0_pay9 (k0_pay6 (iblk m c 0 t) (iblk m c 1 t) (iblk m c 2 t) (iblk m c 5 t)) (k0_pay7 (iblk m c 6 t)) (iblk m c 7 t) (iblk m c 8 t) (iblk m c 9 t) (iblk m c 10 t))
      (pickBlock m c t) (updateBlock m c t s0 s1 s2 s3 s4) where
  no r := by
    refine (noop_read _ _ _ _ _ r).trans ?_
    rw [block_0, block_1, block_2, block_3, block_4]
    rfl
  sc r n := by
    have e : k0_pay9 (k0_pay6 (iblk m c 0 t) (iblk m c 1 t) (iblk m c 2 t) (iblk m c 5 t)) (k0_pay7 (iblk m c 6 t)) (iblk m c 7 t) (iblk m c 8 t) (iblk m c 9 t) (iblk m c 10 t) (ix2 r n)
        = scoreBlock m c t (ix2 r n) := by
      pointwise [k0_pay9]
    exact e.trans (congrFun (scoreBlock_read m c t r) n)
  pk r k := (stored_picks _ _ r k).trans (words_read _ _ _ _ _ _ r _ (scoreBlock_read m c t r) k)
  br r k f := by
    refine (stored_updates _ _ _ _ _ _ _ _ _ _ _ _ r k f).trans ?_
    refine (updates_read (wts m c) (iblk m c 0 t) _ _ _ _ _ _ _ _ _ _ _ _ _ r ((wts m c).picked (rowsAt m c t r) k) f
      ?_ ?_ ?_ ?_ ?_ ?_ ?_ h.lo h.up h.em h.w2 h.w3 (words_read _ _ _ _ _ _ r _ (scoreBlock_read m c t r) k)).trans ?_
    · rw [block_1]
    · rw [block_2]
    · rw [block_12]
    · rw [block_13]
    · rw [block_15]
    · rw [block_17]
    · rw [block_19]
    · rw [block_0]
      rfl

/-! ## The rows a point expands -/

/-- The first row a point expands. -/
theorem start_word : ∀ t : Fin cfg0.N, (Scalar.indexCast (Scalar.muli (BitVec.ofNat 32 (grid0.coords t 1).val) 64#32)).toNat = 64 * (t.val % 4) := by
  decide +kernel

/-- The 64 rows a point expands of a block of 256. -/
def part {α : Type} {n : ℕ} (t : Fin cfg0.N) (X : (⟨2, ![256, n]⟩ : Shape).Idx → α) : (⟨2, ![64, n]⟩ : Shape).Idx → α :=
  fun i => X (ix2 ⟨64 * (t.val % 4) + (i 0).val, by have : (i 0).val < 64 := (i 0).isLt; omega⟩ (i 1))

/-- A load at the rows a point expands. -/
theorem load_part {e : EltTy} {n : ℕ} (t : Fin cfg0.N) (X : Vec Ideal (⟨2, ![256, n]⟩ : Shape) e) (off : Fin 2 → ℕ)
    (ho : off = ![64 * (t.val % 4), 0]) (inb) :
    View.ld X (Rect.unit (s := ⟨2, ![256, n]⟩) off ![64, n] inb) = part t X := by
  subst ho
  funext i
  refine congrArg X (funext fun a => Fin.ext ?_)
  match a with
  | ⟨0, _⟩ => show 64 * (t.val % 4) + 1 * (i 0).val = 64 * (t.val % 4) + (i 0).val; omega
  | ⟨1, _⟩ => show 0 + 1 * (i 1).val = (i 1).val; omega

/-- The offsets of the loads. -/
theorem offs_word (t : Fin cfg0.N) :
    (![(Scalar.indexCast (Scalar.muli (BitVec.ofNat 32 (grid0.coords t 1).val) 64#32)).toNat, 0] : Fin 2 → ℕ) = ![64 * (t.val % 4), 0] := by
  rw [start_word]

/-- The expansion of equal rows. -/
theorem expand_congr {v10 v10' : Vec Ideal S64x256 .f32} {u u' : Vec Ideal S64x512 .f32} {v14 v14' : Vec Ideal S64x1 .f32} {i i' : Vec Ideal S64x4 .i32}
    (h1 : v10 = v10') (h2 : u = u') (h3 : v14 = v14') (h4 : i = i') : expand v10 u v14 i = expand v10' u' v14' i' := by
  rw [h1, h2, h3, h4]

/-- What a point that only expands rows leaves in the output buffer. -/
theorem outB_eq (c : Dev nD) (t : Fin cfg0.N) (h0 : ¬t.val % 16 = 0) (h1 : ¬t.val % 4 = 0) (p : Carried Ideal) :
    outB m c t h0 h1 p = expand (part t p.2.2.2.2.2.2.1) (part t p.2.2.2.2.2.2.2.2) (part t p.2.2.2.2.2.1) (part t p.2.2.2.2.2.2.2.1) := by
  unfold outB
  rw [View.read_writes_eq_canon _ _ _ (coverB m c t h0 h1 p)]
  unfold atB runB
  dsimp only
  sl_unfold_words
  rw [View.canon_cons_unit_zero (S := S64x32769) (by decide)]
  simp only [View.readAt_eq_ld, (Memref.isWhole_whole _).read_unread]
  exact expand_congr (load_part t p.2.2.2.2.2.2.1 _ (offs_word t) _) (load_part t p.2.2.2.2.2.2.2.2 _ (offs_word t) _)
    (load_part t p.2.2.2.2.2.1 _ (offs_word t) _) (load_part t p.2.2.2.2.2.2.2.1 _ (offs_word t) _)

/-! ## What the stores leave -/

/-- A load of what the stores before it left. -/
theorem load_stored {sig : RefSig} {κ : Kind} {sp : Space} {S : Shape} {e : EltTy} (v : View sig κ sp S e) (L : List (View.Piece (Elt Ideal) S e)) (r : Rect S) :
    v.readCov L r.toLoadRect = View.ld (View.canon L) r :=
  View.readCov_eq_canon' v L r.toLoadRect

/-- Carried buffer 0 after the first point. -/
theorem soutA_0_eq (c : Dev nD) (t : Fin cfg0.N) (h0 : t.val % 16 = 0) (h1 : t.val % 4 = 0) :
    soutA_0 m c t h0 h1 = k0_pay39 (View.ld (iblk m c 14 t) (Rect.unit ![0, 0] ![1024, 1024] inb_S2048x1024_S1024x1024_0_0)) := by
  unfold soutA_0
  rw [View.read_writes_eq_canon _ _ _ (coverA_0 m c t h0 h1)]
  unfold atA runA
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]
  rfl

/-- Carried buffer 1 after the first point. -/
theorem soutA_1_eq (c : Dev nD) (t : Fin cfg0.N) (h0 : t.val % 16 = 0) (h1 : t.val % 4 = 0) :
    soutA_1 m c t h0 h1 = k0_pay40 (View.ld (iblk m c 14 t) (Rect.unit ![1024, 0] ![1024, 1024] inb_S2048x1024_S1024x1024_1024_0)) := by
  unfold soutA_1
  rw [View.read_writes_eq_canon _ _ _ (coverA_1 m c t h0 h1)]
  unfold atA runA
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]
  rfl

/-- Carried buffer 2 after the first point. -/
theorem soutA_2_eq (c : Dev nD) (t : Fin cfg0.N) (h0 : t.val % 16 = 0) (h1 : t.val % 4 = 0) :
    soutA_2 m c t h0 h1 = k0_pay41 (iblk m c 11 t) := by
  unfold soutA_2
  rw [View.read_writes_eq_canon _ _ _ (coverA_2 m c t h0 h1)]
  unfold atA runA
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]

/-- Carried buffer 3 after the first point. -/
theorem soutA_3_eq (c : Dev nD) (t : Fin cfg0.N) (h0 : t.val % 16 = 0) (h1 : t.val % 4 = 0) :
    soutA_3 m c t h0 h1 = k0_pay42 (iblk m c 16 t) := by
  unfold soutA_3
  rw [View.read_writes_eq_canon _ _ _ (coverA_3 m c t h0 h1)]
  unfold atA runA
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]

/-- Carried buffer 4 after the first point. -/
theorem soutA_4_eq (c : Dev nD) (t : Fin cfg0.N) (h0 : t.val % 16 = 0) (h1 : t.val % 4 = 0) :
    soutA_4 m c t h0 h1 = k0_pay43 (iblk m c 18 t) := by
  unfold soutA_4
  rw [View.read_writes_eq_canon _ _ _ (coverA_4 m c t h0 h1)]
  unfold atA runA
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]

/-- Carried buffer 5 after the first point. -/
theorem soutA_5_eq (c : Dev nD) (t : Fin cfg0.N) (h0 : t.val % 16 = 0) (h1 : t.val % 4 = 0) :
    soutA_5 m c t h0 h1 = k0_pay5 (iblk m c 0 t) (iblk m c 1 t) (iblk m c 2 t) (iblk m c 3 t) (iblk m c 4 t) := by
  unfold soutA_5
  rw [View.read_writes_eq_canon _ _ _ (coverA_5 m c t h0 h1)]
  unfold atA runA
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]

/-- Carried buffer 6 after the first point. -/
theorem soutA_6_eq (c : Dev nD) (t : Fin cfg0.N) (h0 : t.val % 16 = 0) (h1 : t.val % 4 = 0) :
    soutA_6 m c t h0 h1 = k0_pay9 (k0_pay6 (iblk m c 0 t) (iblk m c 1 t) (iblk m c 2 t) (iblk m c 5 t)) (k0_pay7 (iblk m c 6 t)) (iblk m c 7 t) (iblk m c 8 t) (iblk m c 9 t) (iblk m c 10 t) := by
  unfold soutA_6
  rw [View.read_writes_eq_canon _ _ _ (coverA_6 m c t h0 h1)]
  unfold atA runA
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]

/-- Carried buffer 7 after the first point. -/
theorem soutA_7_eq (c : Dev nD) (t : Fin cfg0.N) (h0 : t.val % 16 = 0) (h1 : t.val % 4 = 0) :
    soutA_7 m c t h0 h1 = pickBlock m c t := by
  unfold soutA_7
  rw [View.read_writes_eq_canon _ _ _ (coverA_7 m c t h0 h1)]
  unfold atA runA
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]

/-- Carried buffer 8 after the first point. -/
theorem soutA_8_eq (c : Dev nD) (t : Fin cfg0.N) (h0 : t.val % 16 = 0) (h1 : t.val % 4 = 0) :
    soutA_8 m c t h0 h1 = updateBlock m c t (k0_pay39 (View.ld (iblk m c 14 t) (Rect.unit ![0, 0] ![1024, 1024] inb_S2048x1024_S1024x1024_0_0))) (k0_pay40 (View.ld (iblk m c 14 t) (Rect.unit ![1024, 0] ![1024, 1024] inb_S2048x1024_S1024x1024_1024_0))) (k0_pay41 (iblk m c 11 t)) (k0_pay42 (iblk m c 16 t)) (k0_pay43 (iblk m c 18 t)) := by
  unfold soutA_8
  rw [View.read_writes_eq_canon _ _ _ (coverA_8 m c t h0 h1)]
  unfold atA runA
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]
  rfl

/-- Carried buffer 5 after a later point that computes a new row block. -/
theorem soutC_5_eq (c : Dev nD) (t : Fin cfg0.N) (h0 : ¬t.val % 16 = 0) (h1 : t.val % 4 = 0) (p : Carried Ideal) :
    soutC_5 m c t h0 h1 p = k0_pay5 (iblk m c 0 t) (iblk m c 1 t) (iblk m c 2 t) (iblk m c 3 t) (iblk m c 4 t) := by
  unfold soutC_5
  rw [View.read_writes_eq_canon _ _ _ (coverC_5 m c t h0 h1 p)]
  unfold atC runC
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]

/-- Carried buffer 6 after a later point that computes a new row block. -/
theorem soutC_6_eq (c : Dev nD) (t : Fin cfg0.N) (h0 : ¬t.val % 16 = 0) (h1 : t.val % 4 = 0) (p : Carried Ideal) :
    soutC_6 m c t h0 h1 p = k0_pay9 (k0_pay6 (iblk m c 0 t) (iblk m c 1 t) (iblk m c 2 t) (iblk m c 5 t)) (k0_pay7 (iblk m c 6 t)) (iblk m c 7 t) (iblk m c 8 t) (iblk m c 9 t) (iblk m c 10 t) := by
  unfold soutC_6
  rw [View.read_writes_eq_canon _ _ _ (coverC_6 m c t h0 h1 p)]
  unfold atC runC
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]

/-- Carried buffer 7 after a later point that computes a new row block. -/
theorem soutC_7_eq (c : Dev nD) (t : Fin cfg0.N) (h0 : ¬t.val % 16 = 0) (h1 : t.val % 4 = 0) (p : Carried Ideal) :
    soutC_7 m c t h0 h1 p = pickBlock m c t := by
  unfold soutC_7
  rw [View.read_writes_eq_canon _ _ _ (coverC_7 m c t h0 h1 p)]
  unfold atC runC
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]

/-- Carried buffer 8 after a later point that computes a new row block. -/
theorem soutC_8_eq (c : Dev nD) (t : Fin cfg0.N) (h0 : ¬t.val % 16 = 0) (h1 : t.val % 4 = 0) (p : Carried Ideal) :
    soutC_8 m c t h0 h1 p = updateBlock m c t p.1 p.2.1 p.2.2.1 p.2.2.2.1 p.2.2.2.2.1 := by
  unfold soutC_8
  rw [View.read_writes_eq_canon _ _ _ (coverC_8 m c t h0 h1 p)]
  unfold atC runC
  dsimp only
  sl_unfold_words
  simp only [View.readAt_eq_ld, (Memref.isWhole_whole _).read_unread, load_stored, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread]
  simp (discharger := decide) only [View.ld_unit_lit, View.canon_cons_unit_lit]

/-- A load, at the rows a point expands, of what covering stores left. -/
theorem load_covered {κ : Kind} {sp : Space} {e : EltTy} {n : ℕ} (t : Fin cfg0.N) (v : View sig κ sp (⟨2, ![256, n]⟩ : Shape) e)
    (L : List (View.Piece (Elt Ideal) (⟨2, ![256, n]⟩ : Shape) e)) (off : Fin 2 → ℕ) (ho : off = ![64 * (t.val % 4), 0]) (inb)
    (hc : ∀ y, ∃ pc ∈ L, y ∈ pc.1.set) :
    v.readAt (Elt Ideal) (Rect.unit (s := ⟨2, ![256, n]⟩) off ![64, n] inb).toLoadRect (v.writes (Elt Ideal) v.junk L) = part t (View.canon L) := by
  rw [View.readAt_eq_ld, View.read_writes_eq_canon _ _ _ hc]
  exact load_part t _ _ ho _

/-- The rows that are expanded are those just computed. -/
theorem canonA_eq (c : Dev nD) (t : Fin cfg0.N) (h0 : t.val % 16 = 0) (h1 : t.val % 4 = 0) :
    View.canon (atA m c t h0 h1).1 = expand (part t (View.canon (atA m c t h0 h1).2.2.2.2.2.2.2.1)) (part t (View.canon (atA m c t h0 h1).2.2.2.2.2.2.2.2.2.1)) (part t (View.canon (atA m c t h0 h1).2.2.2.2.2.2.1)) (part t (View.canon (atA m c t h0 h1).2.2.2.2.2.2.2.2.1)) := by
  unfold atA runA
  dsimp only
  sl_unfold_words
  rw [View.canon_cons_unit_zero (S := S64x32769) (by decide)]
  refine expand_congr ?_ ?_ ?_ ?_
  · exact load_covered t _ _ _ (offs_word t) _ (fun y => View.cover_of_tiledL _ S256x256.size (by sl_kernel_rfl) y)
  · exact load_covered t _ _ _ (offs_word t) _ (fun y => View.cover_of_tiledL (s := S256x512) _ S256x128.size (by sl_kernel_rfl) y)
  · exact load_covered t _ _ _ (offs_word t) _ (fun y => View.cover_of_tiledL _ S256x1.size (by sl_kernel_rfl) y)
  · exact load_covered t _ _ _ (offs_word t) _ (fun y => View.cover_of_tiledL (s := S256x4) _ S256x1.size (by sl_kernel_rfl) y)

/-- What the first point leaves in the output buffer. -/
theorem outA_eq (c : Dev nD) (t : Fin cfg0.N) (h0 : t.val % 16 = 0) (h1 : t.val % 4 = 0) :
    outA m c t h0 h1 = expand (part t (soutA_6 m c t h0 h1)) (part t (soutA_8 m c t h0 h1)) (part t (soutA_5 m c t h0 h1)) (part t (soutA_7 m c t h0 h1)) :=
  (View.read_writes_eq_canon _ _ _ (coverA m c t h0 h1)).trans <| (canonA_eq m c t h0 h1).trans <|
    expand_congr (congrArg (part t) (View.read_writes_eq_canon _ _ _ (coverA_6 m c t h0 h1)).symm) (congrArg (part t) (View.read_writes_eq_canon _ _ _ (coverA_8 m c t h0 h1)).symm)
      (congrArg (part t) (View.read_writes_eq_canon _ _ _ (coverA_5 m c t h0 h1)).symm) (congrArg (part t) (View.read_writes_eq_canon _ _ _ (coverA_7 m c t h0 h1)).symm)

/-- The rows that are expanded are those just computed. -/
theorem canonC_eq (c : Dev nD) (t : Fin cfg0.N) (h0 : ¬t.val % 16 = 0) (h1 : t.val % 4 = 0) (p : Carried Ideal) :
    View.canon (atC m c t h0 h1 p).1 = expand (part t (View.canon (atC m c t h0 h1 p).2.2.2.2.2.2.2.1)) (part t (View.canon (atC m c t h0 h1 p).2.2.2.2.2.2.2.2.2.1)) (part t (View.canon (atC m c t h0 h1 p).2.2.2.2.2.2.1)) (part t (View.canon (atC m c t h0 h1 p).2.2.2.2.2.2.2.2.1)) := by
  unfold atC runC
  dsimp only
  sl_unfold_words
  rw [View.canon_cons_unit_zero (S := S64x32769) (by decide)]
  refine expand_congr ?_ ?_ ?_ ?_
  · exact load_covered t _ _ _ (offs_word t) _ (fun y => View.cover_of_tiledL _ S256x256.size (by sl_kernel_rfl) y)
  · exact load_covered t _ _ _ (offs_word t) _ (fun y => View.cover_of_tiledL (s := S256x512) _ S256x128.size (by sl_kernel_rfl) y)
  · exact load_covered t _ _ _ (offs_word t) _ (fun y => View.cover_of_tiledL _ S256x1.size (by sl_kernel_rfl) y)
  · exact load_covered t _ _ _ (offs_word t) _ (fun y => View.cover_of_tiledL (s := S256x4) _ S256x1.size (by sl_kernel_rfl) y)

/-- What a later point that computes a new row block leaves in the output buffer. -/
theorem outC_eq (c : Dev nD) (t : Fin cfg0.N) (h0 : ¬t.val % 16 = 0) (h1 : t.val % 4 = 0) (p : Carried Ideal) :
    outC m c t h0 h1 p = expand (part t (soutC_6 m c t h0 h1 p)) (part t (soutC_8 m c t h0 h1 p)) (part t (soutC_5 m c t h0 h1 p)) (part t (soutC_7 m c t h0 h1 p)) :=
  (View.read_writes_eq_canon _ _ _ (coverC m c t h0 h1 p)).trans <| (canonC_eq m c t h0 h1 p).trans <|
    expand_congr (congrArg (part t) (View.read_writes_eq_canon _ _ _ (coverC_6 m c t h0 h1 p)).symm) (congrArg (part t) (View.read_writes_eq_canon _ _ _ (coverC_8 m c t h0 h1 p)).symm)
      (congrArg (part t) (View.read_writes_eq_canon _ _ _ (coverC_5 m c t h0 h1 p)).symm) (congrArg (part t) (View.read_writes_eq_canon _ _ _ (coverC_7 m c t h0 h1 p)).symm)

/-! ## What the points leave -/

/-- The first point stores the weights. -/
theorem storedA (c : Dev nD) (t : Fin cfg0.N) (h0 : t.val % 16 = 0) (h1 : t.val % 4 = 0) :
    Stored (wts m c) (soutA_0 m c t h0 h1) (soutA_1 m c t h0 h1) (soutA_2 m c t h0 h1) (soutA_3 m c t h0 h1) (soutA_4 m c t h0 h1) := by
  rw [soutA_0_eq, soutA_1_eq, soutA_2_eq, soutA_3_eq, soutA_4_eq, block_14, block_11, block_16, block_18]
  refine ⟨fun k j => ?_, fun k j => ?_, fun n j => ?_, fun k j => ?_, fun k j => ?_⟩
  · pointwise [k0_pay39]
  · pointwise [k0_pay40]
  · pointwise [k0_pay41]
  · pointwise [k0_pay42]
  · pointwise [k0_pay43]

/-- The first point computes its row block. -/
theorem computedA (c : Dev nD) (t : Fin cfg0.N) (h0 : t.val % 16 = 0) (h1 : t.val % 4 = 0) :
    Computed (wts m c) (rowsAt m c t) (soutA_5 m c t h0 h1) (soutA_6 m c t h0 h1) (soutA_7 m c t h0 h1) (soutA_8 m c t h0 h1) := by
  have h := storedA m c t h0 h1
  rw [soutA_0_eq, soutA_1_eq, soutA_2_eq, soutA_3_eq, soutA_4_eq] at h
  rw [soutA_5_eq, soutA_6_eq, soutA_7_eq, soutA_8_eq]
  exact computed_block m c t h

/-- A later point that starts a row block computes it, from the stored weights. -/
theorem computedC (c : Dev nD) (t : Fin cfg0.N) (h0 : ¬t.val % 16 = 0) (h1 : t.val % 4 = 0) (p : Carried Ideal)
    (h : Stored (wts m c) p.1 p.2.1 p.2.2.1 p.2.2.2.1 p.2.2.2.2.1) :
    Computed (wts m c) (rowsAt m c t) (soutC_5 m c t h0 h1 p) (soutC_6 m c t h0 h1 p) (soutC_7 m c t h0 h1 p) (soutC_8 m c t h0 h1 p) := by
  rw [soutC_5_eq, soutC_6_eq, soutC_7_eq, soutC_8_eq]
  exact computed_block m c t h

/-- What holds after a point: the weights are stored, the point's row block is computed, and its rows are expanded from it. -/
structure After (c : Dev nD) (t : Fin cfg0.N) (o : Vec Ideal S64x32769 .f32) (p : Carried Ideal) : Prop where
  stored : Stored (wts m c) p.1 p.2.1 p.2.2.1 p.2.2.2.1 p.2.2.2.2.1
  computed : Computed (wts m c) (rowsAt m c t) p.2.2.2.2.2.1 p.2.2.2.2.2.2.1 p.2.2.2.2.2.2.2.1 p.2.2.2.2.2.2.2.2
  expanded : o = expand (part t p.2.2.2.2.2.2.1) (part t p.2.2.2.2.2.2.2.2) (part t p.2.2.2.2.2.1) (part t p.2.2.2.2.2.2.2.1)

/-- What holds after a point, buffer by buffer. -/
theorem After.of {c : Dev nD} {t : Fin cfg0.N} {o : Vec Ideal S64x32769 .f32} {s0 s1 : Vec Ideal S1024x1024 .bf16} {s2 : Vec Ideal S256x1024 .bf16}
    {s3 : Vec Ideal S1024x1024 .bf16} {s4 : Vec Ideal S1024x128 .bf16} {s5 : Vec Ideal S256x1 .f32} {s6 : Vec Ideal S256x256 .f32}
    {s7 : Vec Ideal S256x4 .i32} {s8 : Vec Ideal S256x512 .f32} (h1 : Stored (wts m c) s0 s1 s2 s3 s4) (h2 : Computed (wts m c) (rowsAt m c t) s5 s6 s7 s8)
    (h3 : o = expand (part t s6) (part t s8) (part t s5) (part t s7)) : After m c t o (s0, s1, s2, s3, s4, s5, s6, s7, s8) :=
  ⟨h1, h2, h3⟩

/-- After the first point. -/
theorem afterA (c : Dev nD) (t : Fin cfg0.N) (h0 : t.val % 16 = 0) (h1 : t.val % 4 = 0) :
    After m c t (pointA m c t h0 h1).1 (pointA m c t h0 h1).2 := by
  unfold pointA
  dsimp only
  exact After.of m (storedA m c t h0 h1) (computedA m c t h0 h1) (outA_eq m c t h0 h1)

/-- After a later point that computes a new row block. -/
theorem afterC (c : Dev nD) (t : Fin cfg0.N) (h0 : ¬t.val % 16 = 0) (h1 : t.val % 4 = 0) (p : Carried Ideal)
    (h : Stored (wts m c) p.1 p.2.1 p.2.2.1 p.2.2.2.1 p.2.2.2.2.1) : After m c t (pointC m c t h0 h1 p).1 (pointC m c t h0 h1 p).2 := by
  unfold pointC
  dsimp only
  exact After.of m h (computedC m c t h0 h1 p h) (outC_eq m c t h0 h1 p)

/-- After a point that only expands rows. -/
theorem afterB (c : Dev nD) (t : Fin cfg0.N) (h0 : ¬t.val % 16 = 0) (h1 : ¬t.val % 4 = 0) (p : Carried Ideal)
    (h : Stored (wts m c) p.1 p.2.1 p.2.2.1 p.2.2.2.1 p.2.2.2.2.1)
    (h' : Computed (wts m c) (rowsAt m c t) p.2.2.2.2.2.1 p.2.2.2.2.2.2.1 p.2.2.2.2.2.2.2.1 p.2.2.2.2.2.2.2.2) :
    After m c t (pointB m c t h0 h1 p).1 (pointB m c t h0 h1 p).2 := by
  unfold pointB
  dsimp only
  exact After.mk h h' (outB_eq m c t h0 h1 p)

/-- After every point. -/
theorem after_point (c : Dev nD) : ∀ (n : ℕ) (hn : n < cfg0.N), After m c ⟨n, hn⟩ (held m c n hn).1 (held m c n hn).2 := by
  intro n
  induction n with
  | zero =>
    intro hn
    rw [show held m c 0 hn = _ from held_A m c ⟨0, hn⟩ (Nat.zero_mod 16) (Nat.zero_mod 4)]
    exact afterA m c ⟨0, hn⟩ (Nat.zero_mod 16) (Nat.zero_mod 4)
  | succ n ih =>
    intro hn
    have hN : n + 1 < 16 := lt_of_lt_of_eq hn (show cfg0.N = 16 from N_0)
    have hp := ih (Nat.lt_of_succ_lt hn)
    have h0 : ¬(n + 1) % 16 = 0 := by omega
    by_cases h1 : (n + 1) % 4 = 0
    · rw [show held m c (n + 1) hn = _ from held_C m c ⟨n + 1, hn⟩ h0 h1]
      exact afterC m c ⟨n + 1, hn⟩ h0 h1 _ hp.stored
    · rw [show held m c (n + 1) hn = _ from held_B m c ⟨n + 1, hn⟩ h0 h1]
      have hx : rowsAt m c ⟨n, Nat.lt_of_succ_lt hn⟩ = rowsAt m c ⟨n + 1, hn⟩ := by
        funext r k
        refine congrArg (V m c main_arg0) (congrArg (fun a => ix2 a k) (Fin.ext ?_))
        show 256 * (n / 4) + r.val = 256 * ((n + 1) / 4) + r.val
        omega
      exact afterB m c ⟨n + 1, hn⟩ h0 h1 _ hp.stored (hx ▸ hp.computed)

/-! ## The output array -/

/-- The row of the whole array. -/
abbrev rowOf (c : Dev nD) (b : Fin 1024) : Fin 1024 → EReal := fun k => V m c main_arg0 (ix2 b k)

/-- A row of a point's row block is a row of the array. -/
theorem rowsAt_eq (c : Dev nD) (b : Fin 1024) (h : b.val / 64 < cfg0.N) (r : Fin 256) (hr : r.val = 64 * (b.val / 64 % 4) + b.val % 64) :
    rowsAt m c ⟨b.val / 64, h⟩ r = rowOf m c b := by
  funext k
  refine congrArg (V m c main_arg0) (congrArg (fun a => ix2 a k) (Fin.ext ?_))
  show 256 * (b.val / 64 / 4) + r.val = b.val
  omega

/-- The output array at the no-op column. -/
theorem final_noop (c : Dev nD) (b : Fin 1024) : final m c (ix2 b 0) = (wts m c).noop (rowOf m c b) := by
  have h : b.val / 64 < cfg0.N := lt_of_lt_of_eq (by omega : b.val / 64 < 16) (show cfg0.N = 16 from N_0).symm
  have H := after_point m c (b.val / 64) h
  have e : final m c (ix2 b 0) = (held m c (b.val / 64) h).1 (ix2 ⟨b.val % 64, by omega⟩ 0) := by
    refine congrArg (held m c (b.val / 64) h).1 (funext fun a => ?_)
    match a with
    | ⟨0, _⟩ => rfl
    | ⟨1, _⟩ => rfl
  rw [e, H.expanded]
  refine (joined_noop _ _ _ _ _ _ _ _ _ _).trans ?_
  refine (H.computed.no _).trans ?_
  rw [rowsAt_eq m c b h _ rfl]

/-- The output array at a column of segment `ch`. -/
theorem final_read (c : Dev nD) (b : Fin 1024) (ch : Fin 16) (mm : Fin 2048) :
    final m c (ix2 b ⟨1 + 2048 * ch.val + mm.val, by omega⟩)
      = (wts m c).big (rowOf m c b) ⟨16 * ch.val + (groupCol mm).val, by omega⟩ (updateCol mm) := by
  have h : b.val / 64 < cfg0.N := lt_of_lt_of_eq (by omega : b.val / 64 < 16) (show cfg0.N = 16 from N_0).symm
  have H := after_point m c (b.val / 64) h
  have e : final m c (ix2 b ⟨1 + 2048 * ch.val + mm.val, by omega⟩)
      = (held m c (b.val / 64) h).1 (ix2 ⟨b.val % 64, by omega⟩ ⟨1 + 2048 * ch.val + mm.val, by omega⟩) := by
    refine congrArg (held m c (b.val / 64) h).1 (funext fun a => ?_)
    match a with
    | ⟨0, _⟩ => rfl
    | ⟨1, _⟩ => rfl
  rw [e, H.expanded]
  have hr : ∀ r : Fin 256, r.val = 64 * (b.val / 64 % 4) + b.val % 64 → rowsAt m c ⟨b.val / 64, h⟩ r = rowOf m c b := rowsAt_eq m c b h
  refine (expand_read _ _ _ _ _ ch mm ((wts m c).picked (rowOf m c b)) fun k => ?_).trans ?_
  · refine (H.computed.pk _ k).trans ?_
    rw [hr _ rfl]
  · have es : (fun n => (part ⟨b.val / 64, h⟩ (held m c (b.val / 64) h).2.2.2.2.2.2.2.1 (ix2 ⟨b.val % 64, by omega⟩ n) : EReal)) = (wts m c).score (rowOf m c b) := by
      funext n
      refine (H.computed.sc _ n).trans ?_
      rw [hr _ rfl]
    have eu : (fun (k : Fin 4) (f : Fin 128) => (part ⟨b.val / 64, h⟩ (held m c (b.val / 64) h).2.2.2.2.2.2.2.2.2 (ix2 ⟨b.val % 64, by omega⟩ ⟨128 * k.val + f.val, by omega⟩) : EReal))
        = (wts m c).branch (rowOf m c b) := by
      funext k f
      refine (H.computed.br _ k f).trans ?_
      rw [hr _ rfl]
    exact congrArg₂ (fun s u => entry s ((wts m c).picked (rowOf m c b)) u ⟨16 * ch.val + (groupCol mm).val, by omega⟩ (updateCol mm)) es eu

end Cert.KernelIdeal.Whole

end
-- ==== Proof.Finite.lean ====
/- The coarse scores of any row under real coarse weights are real (an infinite entry makes the variance infinite, and the
   scaled row zero), and the claim's precondition says exactly that those weights are real. This is what the reference's `top_k` asks of its operand: no score is minus infinity. -/
module

public import proofs.«01_k».proof.Pre_coarse_weights_finite
public import proofs.«01_k».proof.Proof.Rows
public import Idealize.ShloMosaic.Lib.ReduceAll

@[expose] public section

set_option maxRecDepth 16384

noncomputable section

namespace Cert.Rows

open Idealize.ShloMosaic

/-- An extended real that is a real number. -/
def IsReal (a : EReal) : Prop := ∃ r : ℝ, a = (r : EReal)

variable {a b : EReal}

/-- A real number is not minus infinity. -/
theorem IsReal.ne_bot (ha : IsReal a) : a ≠ ⊥ := by
  obtain ⟨r, rfl⟩ := ha
  exact EReal.coe_ne_bot r

/-- A sum of two reals is real. -/
theorem IsReal.add (ha : IsReal a) (hb : IsReal b) : IsReal (a + b) := by
  obtain ⟨r, rfl⟩ := ha
  obtain ⟨s, rfl⟩ := hb
  exact ⟨r + s, (EReal.coe_add r s).symm⟩

/-- A difference of two reals is real. -/
theorem IsReal.sub (ha : IsReal a) (hb : IsReal b) : IsReal (a - b) := by
  obtain ⟨r, rfl⟩ := ha
  obtain ⟨s, rfl⟩ := hb
  exact ⟨r - s, (EReal.coe_sub r s).symm⟩

/-- A product of two reals is real. -/
theorem IsReal.mul (ha : IsReal a) (hb : IsReal b) : IsReal (a * b) := by
  obtain ⟨r, rfl⟩ := ha
  obtain ⟨s, rfl⟩ := hb
  exact ⟨r * s, (EReal.coe_mul r s).symm⟩

/-- A finite sum of reals is the extended real of the sum. -/
theorem sum_coe {n : ℕ} (f : Fin n → ℝ) : ∑ k, (f k : EReal) = ((∑ k, f k : ℝ) : EReal) := by
  induction n with
  | zero => simp
  | succ n ih => rw [Fin.sum_univ_succ, Fin.sum_univ_succ, ih, EReal.coe_add]

/-- A finite sum of reals is real. -/
theorem IsReal.sum {n : ℕ} {f : Fin n → EReal} (hf : ∀ k, IsReal (f k)) : IsReal (∑ k, f k) := by
  choose g hg using hf
  exact ⟨∑ k, g k, by simp only [hg]; exact sum_coe g⟩

/-- The word of the row length is 1024. -/
theorem length_word : Ideal.ofBits .f32 0x44800000#32 = ((1024 : ℝ) : EReal) := by
  simp [Ideal.ofBits, Ideal.ieee, -EReal.coe_mul]
  norm_num

/-- The word added under the root is a positive real. -/
theorem eps_word : ∃ r : ℝ, 0 < r ∧ Ideal.ofBits .f32 0x3727C5AC#32 = (r : EReal) := by
  refine ⟨_, ?_, (by simp [Ideal.ofBits, Ideal.ieee, -EReal.coe_mul]; rfl)⟩
  positivity

/-- The word of the gelu's half is real. -/
theorem half_word : IsReal (Ideal.ofBits .f32 0x3F000000#32) :=
  ⟨_, by simp [Ideal.ofBits, Ideal.ieee, -EReal.coe_mul]; rfl⟩

/-- The word of the gelu's root is real. -/
theorem root_word : IsReal (Ideal.ofBits .f32 0x3F3504F3#32) :=
  ⟨_, by simp [Ideal.ofBits, Ideal.ieee, -EReal.coe_mul]; rfl⟩

/-- A real over the row length, as a real. -/
theorem div_length (r : ℝ) : Ideal.div (r : EReal) (Ideal.ofBits .f32 0x44800000#32) = ((r * 1024⁻¹ : ℝ) : EReal) := by
  rw [length_word]
  unfold Ideal.div
  rw [if_neg (by exact_mod_cast (by norm_num : (1024 : ℝ) ≠ 0)), ← EReal.coe_inv, ← EReal.coe_mul]

/-- The reciprocal root of a positive real is real. -/
theorem rsqrt_real {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (by linarith), if_neg hr.ne']

/-- The error function of a real is real. -/
theorem IsReal.erf (ha : IsReal a) : IsReal (Ideal.erf a) := by
  obtain ⟨r, rfl⟩ := ha
  exact ⟨_, rfl⟩

/-- The gelu of a real is real. -/
theorem IsReal.gelu (ha : IsReal a) : IsReal (Rows.gelu a) :=
  (half_word.mul ha).mul (IsReal.add ⟨1, EReal.coe_one.symm⟩ (ha.mul root_word).erf)

/-- Where a sum of two is real, both are. -/
theorem real_of_add (h : IsReal (a + b)) : IsReal a ∧ IsReal b := by
  obtain ⟨r, hr⟩ := h
  induction a using EReal.rec <;> induction b using EReal.rec <;> first
    | exact ⟨⟨_, rfl⟩, ⟨_, rfl⟩⟩
    | simp at hr

/-- Where a finite sum is real, every term is. -/
theorem real_of_sum {n : ℕ} (f : Fin n → EReal) (h : IsReal (∑ k, f k)) (k : Fin n) : IsReal (f k) := by
  induction n with
  | zero => exact k.elim0
  | succ n ih =>
    rw [Fin.sum_univ_succ] at h
    obtain ⟨h0, h1⟩ := real_of_add h
    exact Fin.cases h0 (ih (fun k => f k.succ) h1) k

/-- An extended real that is no real is one of the infinities. -/
theorem infinite_of_not_real (h : ¬ IsReal a) : a = ⊤ ∨ a = ⊥ := by
  induction a using EReal.rec with
  | bot => exact Or.inr rfl
  | coe r => exact absurd ⟨r, rfl⟩ h
  | top => exact Or.inl rfl

/-- Infinity over the row length is infinity. -/
theorem top_div : Ideal.div ⊤ (Ideal.ofBits .f32 0x44800000#32) = ⊤ := by
  rw [length_word]
  unfold Ideal.div
  rw [if_neg (by exact_mod_cast (by norm_num : (1024 : ℝ) ≠ 0)), ← EReal.coe_inv]
  exact EReal.top_mul_coe_of_pos (by norm_num)

/-- Minus infinity over the row length is minus infinity. -/
theorem bot_div : Ideal.div ⊥ (Ideal.ofBits .f32 0x44800000#32) = ⊥ := by
  rw [length_word]
  unfold Ideal.div
  rw [if_neg (by exact_mod_cast (by norm_num : (1024 : ℝ) ≠ 0)), ← EReal.coe_inv]
  exact EReal.bot_mul_coe_of_pos (by norm_num)

/-- A sum of one or more infinities is infinity. -/
theorem sum_top (n : ℕ) : ∑ _k : Fin (n + 1), (⊤ : EReal) = ⊤ := by
  induction n with
  | zero => simp
  | succ n ih => rw [Fin.sum_univ_succ, ih, EReal.top_add_top]

/-- The square of a distance from an infinite mean is infinity. -/
theorem square_top {t : EReal} (ht : t = ⊤ ∨ t = ⊥) (v : EReal) : (v - t) * (v - t) = ⊤ := by
  rcases ht with rfl | rfl <;> induction v using EReal.rec <;> simp [sub_eq_add_neg]

/-- The scaled layer norm of a row that holds an infinity is zero: its variance is infinite. -/
theorem scaled_infinite {v : Fin 1024 → EReal} (h : ¬ IsReal (∑ k, v k)) (g : Fin 1024 → EReal) (j : Fin 1024) :
    scaled v g j = 0 := by
  have hm : Ideal.div (∑ k, v k) (Ideal.ofBits .f32 0x44800000#32) = ⊤ ∨ Ideal.div (∑ k, v k) (Ideal.ofBits .f32 0x44800000#32) = ⊥ := by
    rcases infinite_of_not_real h with e | e <;> rw [e]
    · exact Or.inl top_div
    · exact Or.inr bot_div
  obtain ⟨e, _, hE⟩ := eps_word
  unfold scaled
  simp only [square_top hm]
  rw [sum_top 1023, top_div, hE, EReal.top_add_coe, show Ideal.rsqrt ⊤ = 0 from rfl, mul_zero, zero_mul]

/-- The layer norm of any row is real, where its scale and shift are. -/
theorem norm_real (v : Fin 1024 → EReal) {g s : Fin 1024 → EReal} (hg : ∀ k, IsReal (g k)) (hs : ∀ k, IsReal (s k))
    (j : Fin 1024) : IsReal (Rows.norm v g s j) := by
  unfold Rows.norm
  refine IsReal.add ?_ (hs j)
  by_cases hv : IsReal (∑ k, v k)
  swap
  · rw [scaled_infinite hv]
    exact ⟨0, EReal.coe_zero.symm⟩
  choose w hw using real_of_sum v hv
  obtain rfl : v = fun k => (w k : EReal) := funext hw
  obtain ⟨e, he, hE⟩ := eps_word
  unfold scaled
  rw [sum_coe, div_length]
  refine IsReal.mul (IsReal.mul (IsReal.sub ⟨_, rfl⟩ ⟨_, rfl⟩) ?_) (hg j)
  simp only [← EReal.coe_sub, ← EReal.coe_mul]
  rw [sum_coe, div_length, hE, ← EReal.coe_add]
  refine rsqrt_real ?_
  have := Finset.sum_nonneg fun k (_ : k ∈ Finset.univ) => mul_self_nonneg (w k - (∑ k, w k) * 1024⁻¹)
  positivity

/-- A dense layer of reals on a row of reals is real. -/
theorem dense_real {n p : ℕ} {W : Fin n → Fin p → EReal} {s : Fin p → EReal} {v : Fin n → EReal} (hW : ∀ k j, IsReal (W k j))
    (hs : ∀ j, IsReal (s j)) (hv : ∀ k, IsReal (v k)) (j : Fin p) : IsReal (dense W s v j) :=
  (IsReal.sum fun k => (hv k).mul (hW k j)).add (hs j)

/-- The coarse scores of a row of reals are real. -/
theorem scores_real {v : Fin 1024 → EReal} {W1 W2 : Fin 1024 → Fin 1024 → EReal} {b1 b2 : Fin 1024 → EReal}
    {W3 : Fin 1024 → Fin 256 → EReal} {b3 : Fin 256 → EReal} (hv : ∀ k, IsReal (v k)) (h1 : ∀ k j, IsReal (W1 k j))
    (hb1 : ∀ j, IsReal (b1 j)) (h2 : ∀ k j, IsReal (W2 k j)) (hb2 : ∀ j, IsReal (b2 j)) (h3 : ∀ k j, IsReal (W3 k j))
    (hb3 : ∀ j, IsReal (b3 j)) (n : Fin 256) : IsReal (scores v W1 b1 W2 b2 W3 b3 n) :=
  dense_real h3 hb3 (fun k => (dense_real h2 hb2 (fun k => (dense_real h1 hb1 hv k).gelu) k).gelu) n

end Cert.Rows

namespace Cert.Pre_coarse_weights_finite

open Idealize.ShloMosaic Cert.Rows

/-- The word the predicate compares with is infinity. -/
theorem inf_word : Ideal.ofBits .f32 0x7F800000#32 = ⊤ := by
  simp [Ideal.ofBits, Ideal.ieee]

/-- An entry whose absolute value is below infinity is real. -/
theorem real_of_abs (a : EReal) (h : max a (-a) < ⊤) : IsReal a := by
  induction a using EReal.rec with
  | bot => simp at h
  | coe r => exact ⟨r, rfl⟩
  | top => simp at h

/-- There is one index of rank zero. -/
instance one_index : Subsingleton S_.Idx := ⟨fun _ _ => funext fun k => k.elim0⟩

/-- One conjunct of the predicate: an array all of whose absolute values are below infinity holds reals. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : IsReal (x i) := by
  have h1 := Host.reduce_andi_all _ _ hr hu j h i
  have h2 : BitVec.ofBool (decide (max (x i) (-(x i)) < Ideal.ofBits .f32 0x7F800000#32)) = 1#1 := h1
  rw [inf_word] at h2
  refine real_of_abs _ ?_
  by_contra hc
  rw [decide_eq_false hc] at h2
  exact absurd h2 (by decide)

variable [Facts]

/-- The predicate read back: the eight weight arrays of the coarse head hold reals. -/
theorem reals (x0 : FVec Ideal S1024x1024 .f32) (x1 x2 : FVec Ideal S1024 .f32) (x3 : FVec Ideal S1024x1 .f32)
    (x4 : FVec Ideal S1 .f32) (x5 : FVec Ideal S1024x1024 .f32) (x6 : FVec Ideal S1024 .f32) (x7 : FVec Ideal S1024x1024 .f32)
    (x8 : FVec Ideal S1024 .f32) (x9 : FVec Ideal S1024x256 .f32) (x10 : FVec Ideal S256 .f32) (x11 : FVec Ideal S256x1024 .f32)
    (x12 x13 : FVec Ideal S1024 .f32) (x14 : FVec Ideal S2048x1024 .f32) (x15 : FVec Ideal S1024 .f32)
    (x16 : FVec Ideal S1024x1024 .f32) (x17 : FVec Ideal S1024 .f32) (x18 : FVec Ideal S1024x128 .f32) (x19 : FVec Ideal S128 .f32)
    (h : fn (F := Ideal) x0 x1 x2 x3 x4 x5 x6 x7 x8 x9 x10 x11 x12 x13 x14 x15 x16 x17 x18 x19 = fun _ => 1#1) :
    (∀ i, IsReal (x1 i)) ∧ (∀ i, IsReal (x2 i)) ∧ (∀ i, IsReal (x5 i)) ∧ (∀ i, IsReal (x6 i))
      ∧ (∀ i, IsReal (x7 i)) ∧ (∀ i, IsReal (x8 i)) ∧ (∀ i, IsReal (x9 i)) ∧ (∀ i, IsReal (x10 i)) := by
  have h0 := congrFun h (fun k => k.elim0)
  unfold fn fn_part1 fn_part2 at h0
  simp only [andi_apply, IntOp.andi_eq_one] at h0
  obtain ⟨⟨⟨⟨⟨⟨⟨c1, c2⟩, c5⟩, c6⟩, c7⟩, c8⟩, c9⟩, c10⟩ := h0
  exact ⟨real_of_all x1 _ _ _ _ c1, real_of_all x2 _ _ _ _ c2, real_of_all x5 _ _ _ _ c5,
    real_of_all x6 _ _ _ _ c6, real_of_all x7 _ _ _ _ c7, real_of_all x8 _ _ _ _ c8, real_of_all x9 _ _ _ _ c9,
    real_of_all x10 _ _ _ _ c10⟩

end Cert.Pre_coarse_weights_finite

end
-- ==== Proof.Equal.lean ====
/- The kernel's output array and the reference's, entry by entry: at the no-op column both are the same head of the row, and at
   every later column both are the entry of the grid the column lays out. The precondition enters once, where the
   reference's `top_k` is read. -/
module

public import proofs.«01_k».proof.Defs
public import proofs.«01_k».proof.Proof.RefRead
public import proofs.«01_k».proof.Proof.Held
public import proofs.«01_k».proof.Proof.Finite

@[expose] public section

set_option maxRecDepth 16384

noncomputable section

namespace Cert.Equal

open Idealize.ShloMosaic Idealize.ShloMosaic.TcCoe
open Cert.KernelIdeal Cert.KernelIdeal.Gen Cert.KernelIdeal.Whole Cert.Rows

variable (m : (ℓ : Loc nD τ sig) → Buf (Elt Ideal) ℓ)

/-- Under the precondition no coarse score is minus infinity. -/
theorem score_ne_bot [Cert.Pre_coarse_weights_finite.Facts] (hpre : Cert.Pre_KernelIdeal_coarse_weights_finite m) (c : Dev nD) (b : Fin 1024)
    (n : Fin 256) : ((wts m c).score (rowOf m c b) n : EReal) ≠ ⊥ := by
  obtain ⟨h1, h2, h5, h6, h7, h8, h9, h10⟩ := Cert.Pre_coarse_weights_finite.reals _ _ _ _ _ _ _ _ _ _ _ _ _ _ _ _ _ _ _ _ (hpre c)
  exact (scores_real (fun k => norm_real _ (fun k => h1 (ix1 k)) (fun k => h2 (ix1 k)) k)
    (fun k j => h5 (ix2 k j)) (fun j => h6 (ix1 j)) (fun k j => h7 (ix2 k j)) (fun j => h8 (ix1 j)) (fun k j => h9 (ix2 k j))
    (fun j => h10 (ix1 j)) n).ne_bot

/-- A column after the first, as a segment and a column of it. -/
theorem later_column (n : Fin 32769) (h : n.val ≠ 0) :
    ∃ (ch : Fin 16) (mm : Fin 2048), n = ⟨1 + 2048 * ch.val + mm.val, by omega⟩ :=
  ⟨⟨(n.val - 1) / 2048, by omega⟩, ⟨(n.val - 1) % 2048, by omega⟩, Fin.ext (by show n.val = 1 + 2048 * ((n.val - 1) / 2048) + (n.val - 1) % 2048; omega)⟩

/-- The reference's output over the kernel's arguments is the kernel's output. -/
theorem equal [Cert.Pre_coarse_weights_finite.Facts] (hpre : Cert.Pre_KernelIdeal_coarse_weights_finite m) (c : Dev nD) :
    Cert.ReferenceIdeal.Read.val_main_v154 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) = final m c := by
  refine funext fun i => ?_
  obtain ⟨b, n, rfl⟩ : ∃ (b : Fin 1024) (n : Fin 32769), i = ix2 b n := ⟨i 0, i 1, (ix2_eta i).symm⟩
  by_cases h : n.val = 0
  · obtain rfl : n = 0 := Fin.ext h
    exact (Cert.ReferenceIdeal.Reads.out_noop (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) b).trans (final_noop m c b).symm
  · obtain ⟨ch, mm, rfl⟩ := later_column n h
    exact (Cert.ReferenceIdeal.Reads.out_read (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) b (fun n => score_ne_bot m hpre c b n) ch mm).trans (final_read m c b ch mm).symm

end Cert.Equal

end
-- ==== Proof.SameProgram.lean ====
/- The kernel and its ideal reading are one program text: the two printed modules declare the same function, the same
   label table and the same entry, so what is proved of one at any float semantics holds of the other. -/
module

public import proofs.«01_k».proof.Proof.Gen.KernelIdeal.Skeleton
public import proofs.«01_k».proof.Proof.Gen.Kernel.Skeleton

@[expose] public section

set_option maxRecDepth 16384
set_option maxHeartbeats 4000000

namespace Cert.SameProgram

open Idealize.ShloMosaic

variable {F : FTy → Type} [FloatOps F]

/-- The two kernel bodies are the same program. -/
theorem body_eq : @Cert.Kernel.cc0__fused_kernel F _ _ = @Cert.KernelIdeal.cc0__fused_kernel F _ _ := rfl

/-- The two label tables are the same. -/
theorem labels_eq : @Cert.Kernel.defs₀ F _ _ = @Cert.KernelIdeal.defs₀ F _ _ := by
  unfold Cert.Kernel.defs₀ Cert.KernelIdeal.defs₀
  rw [body_eq]
  refine congrArg Defs.onTc (funext fun l => funext fun a => ?_)
  match l, a with
  | 0, (t, s) => rfl
  | ⟨n + 1, h⟩, _ => exact absurd h (Nat.not_lt.2 (Nat.le_add_left _ _))

/-- The two pipelined tables are the same. -/
theorem defs_eq : @Cert.Kernel.defs F _ _ = @Cert.KernelIdeal.defs F _ _ := congrArg (Pipeline.defs _) labels_eq

/-- The two entries are the same. -/
theorem main_eq : @Cert.Kernel.main F _ = @Cert.KernelIdeal.main F _ := rfl

end Cert.SameProgram
-- ==== Proof.lean ====
/- The claims of this certificate from its parts: the kernel's whole run (Body), the same run at the bit instance (the two
   programs are one text: SameProgram), the reference's generated run, and the equality of the two results (Equal). -/
module

public import proofs.«01_k».proof.Defs
public import proofs.«01_k».proof.Proof.RefRead
public import proofs.«01_k».proof.Proof.Equal
public import proofs.«01_k».proof.Proof.Body
public import proofs.«01_k».proof.Proof.SameProgram
public import proofs.«01_k».proof.Proof.Gen.ReferenceIdeal.Run
public import Idealize.ShloMosaic.Lib.Quiescent

@[expose] public section

noncomputable section

namespace Cert.Proof

open Idealize.ShloMosaic Idealize.SL.Sem

/-- The kernel's frame at the bit instance. -/
theorem quiescent_Kernel : quiescent_Kernel := fun m ρ _ => by
  rw [Cert.SameProgram.defs_eq, Cert.SameProgram.main_eq]
  exact Cert.KernelIdeal.Whole.frame (F := Bits) m ρ

/-- The kernel's frame at the ideal instance. -/
theorem quiescent_KernelIdeal : quiescent_KernelIdeal := fun m ρ _ => Cert.KernelIdeal.Whole.frame (F := Ideal) m ρ

/-- The reference's frame: its generated run, and its counters zero since it declares no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two results are equal. -/
theorem algebraic_KernelIdeal_ReferenceIdeal [Cert.Pre_coarse_weights_finite.Facts] :
    algebraic_KernelIdeal_ReferenceIdeal_pre_coarse_weights_finite := by
  intro m ρ m' ρ' hpre hagree
  refine ⟨_, Cert.KernelIdeal.Whole.run_value (F := Ideal) m ρ, ?_⟩
  refine (θ_run Cert.ReferenceIdeal.defs _ _).mono (fun _ h c => ⟨?_, (h c).2⟩) (Cert.ReferenceIdeal.Value.run (F := Ideal) m' ρ')
  rw [(h c).1]
  refine (Cert.ReferenceIdeal.Read.val_main_v154_eq _).trans ?_
  obtain ⟨a0, a1, a2, a3, a4, a5, a6, a7, a8, a9, a10, a11, a12, a13, a14, a15, a16, a17, a18, a19⟩ := hagree c
  have e := Cert.Equal.equal m hpre c
  show Cert.ReferenceIdeal.Read.val_main_v154 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) = _
  rw [a0, a1, a2, a3, a4, a5, a6, a7, a8, a9, a10, a11, a12, a13, a14, a15, a16, a17, a18, a19]
  exact e

/-- The predicate's shape facts. -/
instance facts_pre : Cert.Pre_coarse_weights_finite.Facts := by
  exact ⟨by decide, by decide, by decide, by decide, by decide, by decide, by decide, by decide, by decide⟩

/-- The claim. -/
theorem claim : Cert.Claim := ⟨Cert.Kernel.Gen.facts, Cert.KernelIdeal.Gen.facts, Cert.ReferenceIdeal.Gen.facts, facts_pre,
  quiescent_Kernel, quiescent_KernelIdeal, fun m ρ _ => quiescent_KernelIdeal m ρ trivial,
  quiescent_ReferenceIdeal, fun m ρ _ => quiescent_ReferenceIdeal m ρ trivial, (trivial : preserves_Kernel_KernelIdeal),
  algebraic_KernelIdeal_ReferenceIdeal⟩

end Cert.Proof

end
